-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v430) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S32768x40 : Shape := ⟨2, ![32768, 40]⟩
abbrev S8x4096x8 : Shape := ⟨3, ![8, 4096, 8]⟩
abbrev S8x512x512 : Shape := ⟨3, ![8, 512, 512]⟩
abbrev S_ : Shape := ⟨0, ![]⟩

class Facts : Prop where
  bcast_S_S8x4096x8 : S_.BroadcastsInDim S8x4096x8 (![] : Fin 0 → Fin S8x4096x8.rank)
  bcast_S_S8x512x512 : S_.BroadcastsInDim S8x512x512 (![] : Fin 0 → Fin S8x512x512.rank)

variable [Facts]

def fn {F : FTy → Type} [FloatOps F] (main_arg0 : FVec F S32768x40 .f32) (main_arg1 : FVec F S8x4096x8 .f32) (main_arg2 : FVec F S8x512x512 .f32) (main_arg3 : FVec F S8x512x512 .f32) (main_arg4 : FVec F S8x512x512 .f32) (main_arg5 : IVec S8x512x512 1) (main_arg6 : IVec S8x512x512 1) (main_arg7 : IVec S8x512x512 1) (main_arg8 : IVec S8x512x512 32) : IVec S8x4096x8 1 × IVec S8x512x512 1 :=
  let main_cst : FVec F S_ .f32 := constant S_ .f32 0x00000000#32
  let main_v0 : FVec F S8x4096x8 .f32 := broadcastInDim S8x4096x8 ![] bcast_S_S8x4096x8 main_cst
  let main_v1 : IVec S8x4096x8 1 := cmpf .oge main_arg1 main_v0
  let main_cst_0 : FVec F S_ .f32 := constant S_ .f32 0x3F800000#32
  let main_v2 : FVec F S8x4096x8 .f32 := broadcastInDim S8x4096x8 ![] bcast_S_S8x4096x8 main_cst_0
  let main_v3 : IVec S8x4096x8 1 := cmpf .olt main_arg1 main_v2
  let main_v4 : IVec S8x4096x8 1 := andi main_v1 main_v3
  let main_cst_1 : FVec F S_ .f32 := constant S_ .f32 0x3F800000#32
  let main_v5 : FVec F S8x512x512 .f32 := broadcastInDim S8x512x512 ![] bcast_S_S8x512x512 main_cst_1
  let main_v6 : IVec S8x512x512 1 := cmpf .olt main_arg4 main_v5
  (main_v4, main_v6)
-- ==== Kernel.lean ====
abbrev S32768x40 : Shape := ⟨2, ![32768, 40]⟩
abbrev S8x4096x8 : Shape := ⟨3, ![8, 4096, 8]⟩
abbrev S8x512x512 : Shape := ⟨3, ![8, 512, 512]⟩
abbrev S1x128 : Shape := ⟨2, ![1, 128]⟩
abbrev S512x40 : Shape := ⟨2, ![512, 40]⟩
abbrev S1x512x8 : Shape := ⟨3, ![1, 512, 8]⟩
abbrev S1x64x512 : Shape := ⟨3, ![1, 64, 512]⟩
abbrev S64x512 : Shape := ⟨2, ![64, 512]⟩
abbrev S1 : Shape := ⟨1, ![1]⟩
abbrev S1x1x1 : Shape := ⟨3, ![1, 1, 1]⟩
abbrev S64x1 : Shape := ⟨2, ![64, 1]⟩
abbrev S64x511 : Shape := ⟨2, ![64, 511]⟩
abbrev S8x8x512 : Shape := ⟨3, ![8, 8, 512]⟩
abbrev S8x512 : Shape := ⟨2, ![8, 512]⟩
abbrev S80x512 : Shape := ⟨2, ![80, 512]⟩
abbrev S512x64 : Shape := ⟨2, ![512, 64]⟩
abbrev S80x64 : Shape := ⟨2, ![80, 64]⟩
abbrev S512x8 : Shape := ⟨2, ![512, 8]⟩
abbrev S8x64x8 : Shape := ⟨3, ![8, 64, 8]⟩
abbrev S8x64 : Shape := ⟨2, ![8, 64]⟩
abbrev S8x64x1 : Shape := ⟨3, ![8, 64, 1]⟩
abbrev S1x8x64 : Shape := ⟨3, ![1, 8, 64]⟩
abbrev S8x64x40 : Shape := ⟨3, ![8, 64, 40]⟩
abbrev S128 : Shape := ⟨1, ![128]⟩
abbrev S_ : Shape := ⟨0, ![]⟩
abbrev S5 : Shape := ⟨1, ![5]⟩

abbrev nBuf : Space → Nat
  | .hbm => 55
  | .vmem => 19
  | .smem => 0
  | _ => 0

abbrev bufTy : (tb : Table) → Fin (tcTables nBuf tb) → BufTy
  | .hbm, ⟨0, _⟩ => ⟨S32768x40, .f32⟩
  | .hbm, ⟨1, _⟩ => ⟨S8x4096x8, .f32⟩
  | .hbm, ⟨2, _⟩ => ⟨S8x512x512, .f32⟩
  | .hbm, ⟨3, _⟩ => ⟨S8x512x512, .f32⟩
  | .hbm, ⟨4, _⟩ => ⟨S8x512x512, .f32⟩
  | .hbm, ⟨5, _⟩ => ⟨S8x512x512, .i1⟩
  | .hbm, ⟨6, _⟩ => ⟨S8x512x512, .i1⟩
  | .hbm, ⟨7, _⟩ => ⟨S8x512x512, .i1⟩
  | .hbm, ⟨8, _⟩ => ⟨S8x512x512, .i32⟩
  | .hbm, ⟨9, _⟩ => ⟨S8x512x512, .i32⟩
  | .hbm, ⟨10, _⟩ => ⟨S8x512x512, .i32⟩
  | .hbm, ⟨11, _⟩ => ⟨S8x512x512, .i32⟩
  | .hbm, ⟨12, _⟩ => ⟨S1x128, .f32⟩
  | .hbm, ⟨13, _⟩ => ⟨S128, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S5, .f32⟩
  | .local _ .vmem, ⟨0, _⟩ => ⟨S512x40, .f32⟩
  | .local _ .vmem, ⟨1, _⟩ => ⟨S512x40, .f32⟩
  | .local _ .vmem, ⟨2, _⟩ => ⟨S1x512x8, .f32⟩
  | .local _ .vmem, ⟨3, _⟩ => ⟨S1x512x8, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .i32⟩
  | .local _ .vmem, ⟨11, _⟩ => ⟨S1x64x512, .i32⟩
  | .local _ .vmem, ⟨12, _⟩ => ⟨S1x64x512, .i32⟩
  | .local _ .vmem, ⟨13, _⟩ => ⟨S1x64x512, .i32⟩
  | .local _ .vmem, ⟨14, _⟩ => ⟨S1x64x512, .i32⟩
  | .local _ .vmem, ⟨15, _⟩ => ⟨S1x64x512, .i32⟩
  | .local _ .vmem, ⟨16, _⟩ => ⟨S1x64x512, .i32⟩
  | .local _ .vmem, ⟨17, _⟩ => ⟨S1x64x512, .i32⟩
  | .local _ .vmem, ⟨18, _⟩ => ⟨S1x128, .f32⟩
  | _, _ => ⟨S32768x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S32768x40 : Shape := ⟨2, ![32768, 40]⟩
abbrev S8x4096x8 : Shape := ⟨3, ![8, 4096, 8]⟩
abbrev S8x512x512 : Shape := ⟨3, ![8, 512, 512]⟩
abbrev S_ : Shape := ⟨0, ![]⟩
abbrev S32768x8 : Shape := ⟨2, ![32768, 8]⟩
abbrev S8x64x8x64x8 : Shape := ⟨5, ![8, 64, 8, 64, 8]⟩
abbrev S8x64x64x8x8 : Shape := ⟨5, ![8, 64, 64, 8, 8]⟩
abbrev S32768x64 : Shape := ⟨2, ![32768, 64]⟩
abbrev S32768 : Shape := ⟨1, ![32768]⟩
abbrev S32768x1 : Shape := ⟨2, ![32768, 1]⟩
abbrev S32768x4 : Shape := ⟨2, ![32768, 4]⟩
abbrev S32768x4x1 : Shape := ⟨3, ![32768, 4, 1]⟩
abbrev S32768x1x8 : Shape := ⟨3, ![32768, 1, 8]⟩
abbrev S32768x4x8 : Shape := ⟨3, ![32768, 4, 8]⟩
abbrev S1 : Shape := ⟨1, ![1]⟩
abbrev S1x1x1 : Shape := ⟨3, ![1, 1, 1]⟩
abbrev S32768x3 : Shape := ⟨2, ![32768, 3]⟩
abbrev S32768x2 : Shape := ⟨2, ![32768, 2]⟩
abbrev S32768x1x1 : Shape := ⟨3, ![32768, 1, 1]⟩
abbrev S8 : Shape := ⟨1, ![8]⟩
abbrev S1x8 : Shape := ⟨2, ![1, 8]⟩
abbrev S512 : Shape := ⟨1, ![512]⟩
abbrev S1x1x512 : Shape := ⟨3, ![1, 1, 512]⟩
abbrev S8x512x512x1 : Shape := ⟨4, ![8, 512, 512, 1]⟩
abbrev S1x1x1x1 : Shape := ⟨4, ![1, 1, 1, 1]⟩
abbrev S32768x64x1 : Shape := ⟨3, ![32768, 64, 1]⟩
abbrev S32768x64x2 : Shape := ⟨3, ![32768, 64, 2]⟩
abbrev S5 : Shape := ⟨1, ![5]⟩

abbrev nBuf : Space → Nat
  | .hbm => 778
  | .vmem => 0
  | .smem => 0
  | _ => 0

abbrev hbmTy0_0 (i : Nat) : BufTy := match i % 128 with
  | 0 => ⟨S32768x40, .f32⟩
  | 1 => ⟨S8x4096x8, .f32⟩
  | 2 => ⟨S8x512x512, .f32⟩
  | 3 => ⟨S8x512x512, .f32⟩
  | 4 => ⟨S8x512x512, .f32⟩
  | 5 => ⟨S8x512x512, .i1⟩
  | 6 => ⟨S8x512x512, .i1⟩
  | 7 => ⟨S8x512x512, .i1⟩
  | 8 => ⟨S8x512x512, .i32⟩
  | 9 => ⟨S_, .f32⟩
  | 10 => ⟨S_, .f32⟩
  | 11 => ⟨S8x512x512, .f32⟩
  | 12 => ⟨S8x512x512, .f32⟩
  | 13 => ⟨S_, .f32⟩
  | 14 => ⟨S8x4096x8, .f32⟩
  | 15 => ⟨S8x4096x8, .f32⟩
  | 16 => ⟨S32768x8, .f32⟩
  | 17 => ⟨S8x64x8x64x8, .f32⟩
  | 18 => ⟨S8x64x64x8x8, .f32⟩
  | 19 => ⟨S32768x64, .f32⟩
  | 20 => ⟨S8x64x8x64x8, .i32⟩
  | 21 => ⟨S8x64x64x8x8, .i32⟩
  | 22 => ⟨S32768x64, .i32⟩
  | 23 => ⟨S_, .i32⟩
  | 24 => ⟨S32768x64, .i32⟩
  | 25 => ⟨S32768x64, .i1⟩
  | 26 => ⟨S_, .f32⟩
  | 27 => ⟨S32768x64, .f32⟩
  | 28 => ⟨S32768x64, .i1⟩
  | 29 => ⟨S32768x64, .i1⟩
  | 30 => ⟨S_, .f32⟩
  | 31 => ⟨S_, .f32⟩
  | 32 => ⟨S32768x64, .f32⟩
  | 33 => ⟨S32768x64, .f32⟩
  | 34 => ⟨S_, .f32⟩
  | 35 => ⟨S32768, .f32⟩
  | 36 => ⟨S32768x64, .i32⟩
  | 37 => ⟨S_, .i32⟩
  | 38 => ⟨S32768, .i32⟩
  | 39 => ⟨S_, .i32⟩
  | 40 => ⟨S32768, .i32⟩
  | 41 => ⟨S32768, .i1⟩
  | 42 => ⟨S_, .i32⟩
  | 43 => ⟨S32768, .i32⟩
  | 44 => ⟨S32768, .i32⟩
  | 45 => ⟨S32768, .f32⟩
  | 46 => ⟨S32768, .f32⟩
  | 47 => ⟨S_, .f32⟩
  | 48 => ⟨S_, .f32⟩
  | 49 => ⟨S32768, .f32⟩
  | 50 => ⟨S32768, .f32⟩
  | 51 => ⟨S_, .i32⟩
  | 52 => ⟨S32768x64, .i32⟩
  | 53 => ⟨S32768x64, .i1⟩
  | 54 => ⟨S_, .f32⟩
  | 55 => ⟨S32768x64, .f32⟩
  | 56 => ⟨S32768x64, .i1⟩
  | 57 => ⟨S32768x64, .i1⟩
  | 58 => ⟨S_, .f32⟩
  | 59 => ⟨S_, .f32⟩
  | 60 => ⟨S32768x64, .f32⟩
  | 61 => ⟨S32768x64, .f32⟩
  | 62 => ⟨S_, .f32⟩
  | 63 => ⟨S32768, .f32⟩
  | 64 => ⟨S32768x64, .i32⟩
  | 65 => ⟨S_, .i32⟩
  | 66 => ⟨S32768, .i32⟩
  | 67 => ⟨S_, .i32⟩
  | 68 => ⟨S32768, .i32⟩
  | 69 => ⟨S32768, .i1⟩
  | 70 => ⟨S_, .i32⟩
  | 71 => ⟨S32768, .i32⟩
  | 72 => ⟨S32768, .i32⟩
  | 73 => ⟨S32768, .f32⟩
  | 74 => ⟨S32768, .f32⟩
  | 75 => ⟨S_, .f32⟩
  | 76 => ⟨S_, .f32⟩
  | 77 => ⟨S32768, .f32⟩
  | 78 => ⟨S32768, .f32⟩
  | 79 => ⟨S_, .i32⟩
  | 80 => ⟨S32768x64, .i32⟩
  | 81 => ⟨S32768x64, .i1⟩
  | 82 => ⟨S_, .f32⟩
  | 83 => ⟨S32768x64, .f32⟩
  | 84 => ⟨S32768x64, .i1⟩
  | 85 => ⟨S32768x64, .i1⟩
  | 86 => ⟨S_, .f32⟩
  | 87 => ⟨S_, .f32⟩
  | 88 => ⟨S32768x64, .f32⟩
  | 89 => ⟨S32768x64, .f32⟩
  | 90 => ⟨S_, .f32⟩
  | 91 => ⟨S32768, .f32⟩
  | 92 => ⟨S32768x64, .i32⟩
  | 93 => ⟨S_, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .f32⟩
  | 102 => ⟨S32768, .f32⟩
  | 103 => ⟨S_, .f32⟩
  | 104 => ⟨S_, .f32⟩
  | 105 => ⟨S32768, .f32⟩
  | 106 => ⟨S32768, .f32⟩
  | 107 => ⟨S_, .i32⟩
  | 108 => ⟨S32768x64, .i32⟩
  | 109 => ⟨S32768x64, .i1⟩
  | 110 => ⟨S_, .f32⟩
  | 111 => ⟨S32768x64, .f32⟩
  | 112 => ⟨S32768x64, .i1⟩
  | 113 => ⟨S32768x64, .i1⟩
  | 114 => ⟨S_, .f32⟩
  | 115 => ⟨S_, .f32⟩
  | 116 => ⟨S32768x64, .f32⟩
  | 117 => ⟨S32768x64, .f32⟩
  | 118 => ⟨S_, .f32⟩
  | 119 => ⟨S32768, .f32⟩
  | 120 => ⟨S32768x64, .i32⟩
  | 121 => ⟨S_, .i32⟩
  | 122 => ⟨S32768, .i32⟩
  | 123 => ⟨S_, .i32⟩
  | 124 => ⟨S32768, .i32⟩
  | 125 => ⟨S32768, .i1⟩
  | 126 => ⟨S_, .i32⟩
  | 127 => ⟨S32768, .i32⟩
  | _ => ⟨S32768x40, .f32⟩

abbrev hbmTy0_1 (i : Nat) : BufTy := match i % 128 with
  | 0 => ⟨S32768, .i32⟩
  | 1 => ⟨S32768, .f32⟩
  | 2 => ⟨S32768, .f32⟩
  | 3 => ⟨S_, .f32⟩
  | 4 => ⟨S_, .f32⟩
  | 5 => ⟨S32768, .f32⟩
  | 6 => ⟨S32768, .f32⟩
  | 7 => ⟨S32768x1, .f32⟩
  | 8 => ⟨S32768x1, .f32⟩
  | 9 => ⟨S32768x1, .f32⟩
  | 10 => ⟨S32768x1, .f32⟩
  | 11 => ⟨S32768x4, .f32⟩
  | 12 => ⟨S_, .f32⟩
  | 13 => ⟨S32768x4, .f32⟩
  | 14 => ⟨S32768x4, .i1⟩
  | 15 => ⟨S_, .f32⟩
  | 16 => ⟨S_, .f32⟩
  | 17 => ⟨S32768x4, .f32⟩
  | 18 => ⟨S32768x4, .f32⟩
  | 19 => ⟨S32768x4x1, .f32⟩
  | 20 => ⟨S32768x1x8, .f32⟩
  | 21 => ⟨S32768x4x8, .f32⟩
  | 22 => ⟨S32768x4x8, .f32⟩
  | 23 => ⟨S32768x4x8, .f32⟩
  | 24 => ⟨S32768x4x8, .f32⟩
  | 25 => ⟨S_, .f32⟩
  | 26 => ⟨S32768x4, .f32⟩
  | 27 => ⟨S32768x4, .i1⟩
  | 28 => ⟨S32768x4x1, .i1⟩
  | 29 => ⟨S_, .f32⟩
  | 30 => ⟨S_, .f32⟩
  | 31 => ⟨S32768x4x8, .i1⟩
  | 32 => ⟨S32768x4x8, .f32⟩
  | 33 => ⟨S32768x4x8, .f32⟩
  | 34 => ⟨S_, .f32⟩
  | 35 => ⟨S32768x4, .f32⟩
  | 36 => ⟨S32768x4, .i32⟩
  | 37 => ⟨S32768x4, .f32⟩
  | 38 => ⟨S32768x4, .i32⟩
  | 39 => ⟨S_, .i32⟩
  | 40 => ⟨S32768x4, .i32⟩
  | 41 => ⟨S32768x4, .i1⟩
  | 42 => ⟨S_, .i32⟩
  | 43 => ⟨S32768x4, .i32⟩
  | 44 => ⟨S32768x4, .i32⟩
  | 45 => ⟨S32768x4, .i32⟩
  | 46 => ⟨S32768x4x1, .i32⟩
  | 47 => ⟨S1, .i32⟩
  | 48 => ⟨S_, .i32⟩
  | 49 => ⟨S32768x4x1, .i32⟩
  | 50 => ⟨S32768x4x1, .i1⟩
  | 51 => ⟨S1x1x1, .i32⟩
  | 52 => ⟨S32768x4x1, .i32⟩
  | 53 => ⟨S32768x4x1, .i1⟩
  | 54 => ⟨S32768x4x1, .i1⟩
  | 55 => ⟨S_, .i1⟩
  | 56 => ⟨S32768x4, .i1⟩
  | 57 => ⟨S32768x4, .f32⟩
  | 58 => ⟨S_, .f32⟩
  | 59 => ⟨S32768x4, .f32⟩
  | 60 => ⟨S32768x4, .f32⟩
  | 61 => ⟨S32768x3, .f32⟩
  | 62 => ⟨S32768x1, .f32⟩
  | 63 => ⟨S32768x3, .f32⟩
  | 64 => ⟨S32768x3, .f32⟩
  | 65 => ⟨S32768x3, .f32⟩
  | 66 => ⟨S32768x1, .f32⟩
  | 67 => ⟨S_, .f32⟩
  | 68 => ⟨S32768x1, .f32⟩
  | 69 => ⟨S32768x1, .i1⟩
  | 70 => ⟨S_, .f32⟩
  | 71 => ⟨S32768x3, .f32⟩
  | 72 => ⟨S32768x3, .i1⟩
  | 73 => ⟨S32768x3, .i1⟩
  | 74 => ⟨S32768x3, .i1⟩
  | 75 => ⟨S32768x3, .f32⟩
  | 76 => ⟨S_, .f32⟩
  | 77 => ⟨S_, .f32⟩
  | 78 => ⟨S32768x3, .f32⟩
  | 79 => ⟨S32768x3, .f32⟩
  | 80 => ⟨S_, .i32⟩
  | 81 => ⟨S1, .i32⟩
  | 82 => ⟨S32768x4, .f32⟩
  | 83 => ⟨S32768x2, .f32⟩
  | 84 => ⟨S32768x1, .f32⟩
  | 85 => ⟨S32768x2, .f32⟩
  | 86 => ⟨S32768x2, .f32⟩
  | 87 => ⟨S32768x2, .f32⟩
  | 88 => ⟨S32768x1, .f32⟩
  | 89 => ⟨S_, .f32⟩
  | 90 => ⟨S32768x1, .f32⟩
  | 91 => ⟨S32768x1, .i1⟩
  | 92 => ⟨S_, .f32⟩
  | 93 => ⟨S32768x2, .f32⟩
  | 94 => ⟨S32768x2, .i1⟩
  | 95 => ⟨S32768x2, .i1⟩
  | 96 => ⟨S32768x2, .i1⟩
  | 97 => ⟨S32768x2, .f32⟩
  | 98 => ⟨S_, .f32⟩
  | 99 => ⟨S_, .f32⟩
  | 100 => ⟨S32768x2, .f32⟩
  | 101 => ⟨S32768x2, .f32⟩
  | 102 => ⟨S_, .i32⟩
  | 103 => ⟨S1, .i32⟩
  | 104 => ⟨S32768x4, .f32⟩
  | 105 => ⟨S32768x1, .f32⟩
  | 106 => ⟨S32768x1, .f32⟩
  | 107 => ⟨S32768x1, .f32⟩
  | 108 => ⟨S32768x1, .f32⟩
  | 109 => ⟨S32768x1, .f32⟩
  | 110 => ⟨S_, .f32⟩
  | 111 => ⟨S32768x1, .f32⟩
  | 112 => ⟨S32768x1, .i1⟩
  | 113 => ⟨S_, .f32⟩
  | 114 => ⟨S32768x1, .f32⟩
  | 115 => ⟨S32768x1, .i1⟩
  | 116 => ⟨S32768x1, .i1⟩
  | 117 => ⟨S32768x1, .f32⟩
  | 118 => ⟨S_, .f32⟩
  | 119 => ⟨S_, .f32⟩
  | 120 => ⟨S32768x1, .f32⟩
  | 121 => ⟨S32768x1, .f32⟩
  | 122 => ⟨S_, .i32⟩
  | 123 => ⟨S1, .i32⟩
  | 124 => ⟨S32768x4, .f32⟩
  | 125 => ⟨S_, .i1⟩
  | 126 => ⟨S32768x8, .i1⟩
  | 127 => ⟨S32768x1, .f32⟩
  | _ => ⟨S32768x40, .f32⟩

abbrev hbmTy0_2 (i : Nat) : BufTy := match i % 128 with
  | 0 => ⟨S32768x8, .f32⟩
  | 1 => ⟨S32768x8, .f32⟩
  | 2 => ⟨S32768x8, .f32⟩
  | 3 => ⟨S_, .f32⟩
  | 4 => ⟨S_, .f32⟩
  | 5 => ⟨S32768x8, .f32⟩
  | 6 => ⟨S32768x8, .f32⟩
  | 7 => ⟨S32768x8, .i32⟩
  | 8 => ⟨S32768x8, .f32⟩
  | 9 => ⟨S32768x8, .i32⟩
  | 10 => ⟨S32768x1, .i32⟩
  | 11 => ⟨S32768, .i32⟩
  | 12 => ⟨S32768x1, .i32⟩
  | 13 => ⟨S_, .i32⟩
  | 14 => ⟨S32768x1, .i32⟩
  | 15 => ⟨S32768x1, .i1⟩
  | 16 => ⟨S_, .i32⟩
  | 17 => ⟨S32768x1, .i32⟩
  | 18 => ⟨S32768x1, .i32⟩
  | 19 => ⟨S32768x1, .i32⟩
  | 20 => ⟨S32768x1x1, .i32⟩
  | 21 => ⟨S1, .i32⟩
  | 22 => ⟨S_, .i32⟩
  | 23 => ⟨S32768x1x1, .i32⟩
  | 24 => ⟨S32768x1x1, .i1⟩
  | 25 => ⟨S1x1x1, .i32⟩
  | 26 => ⟨S32768x1x1, .i32⟩
  | 27 => ⟨S32768x1x1, .i1⟩
  | 28 => ⟨S32768x1x1, .i1⟩
  | 29 => ⟨S_, .i1⟩
  | 30 => ⟨S32768x1, .i1⟩
  | 31 => ⟨S32768x1, .f32⟩
  | 32 => ⟨S_, .f32⟩
  | 33 => ⟨S32768x1, .f32⟩
  | 34 => ⟨S32768x1, .f32⟩
  | 35 => ⟨S32768, .f32⟩
  | 36 => ⟨S8, .i32⟩
  | 37 => ⟨S1x8, .i32⟩
  | 38 => ⟨S32768x1, .i32⟩
  | 39 => ⟨S32768x8, .i32⟩
  | 40 => ⟨S32768x8, .i32⟩
  | 41 => ⟨S32768x8, .i1⟩
  | 42 => ⟨S32768x8, .i1⟩
  | 43 => ⟨S32768x1, .f32⟩
  | 44 => ⟨S32768, .f32⟩
  | 45 => ⟨S_, .f32⟩
  | 46 => ⟨S32768, .f32⟩
  | 47 => ⟨S32768, .i1⟩
  | 48 => ⟨S_, .f32⟩
  | 49 => ⟨S_, .f32⟩
  | 50 => ⟨S32768, .f32⟩
  | 51 => ⟨S32768, .f32⟩
  | 52 => ⟨S32768x1, .f32⟩
  | 53 => ⟨S32768x8, .f32⟩
  | 54 => ⟨S32768x8, .f32⟩
  | 55 => ⟨S32768x8, .f32⟩
  | 56 => ⟨S_, .f32⟩
  | 57 => ⟨S_, .f32⟩
  | 58 => ⟨S32768x8, .f32⟩
  | 59 => ⟨S32768x8, .f32⟩
  | 60 => ⟨S32768x8, .i32⟩
  | 61 => ⟨S32768x8, .f32⟩
  | 62 => ⟨S32768x8, .i32⟩
  | 63 => ⟨S32768x1, .i32⟩
  | 64 => ⟨S32768, .i32⟩
  | 65 => ⟨S32768x1, .i32⟩
  | 66 => ⟨S_, .i32⟩
  | 67 => ⟨S32768x1, .i32⟩
  | 68 => ⟨S32768x1, .i1⟩
  | 69 => ⟨S_, .i32⟩
  | 70 => ⟨S32768x1, .i32⟩
  | 71 => ⟨S32768x1, .i32⟩
  | 72 => ⟨S32768x1, .i32⟩
  | 73 => ⟨S32768x1x1, .i32⟩
  | 74 => ⟨S1, .i32⟩
  | 75 => ⟨S_, .i32⟩
  | 76 => ⟨S32768x1x1, .i32⟩
  | 77 => ⟨S32768x1x1, .i1⟩
  | 78 => ⟨S1x1x1, .i32⟩
  | 79 => ⟨S32768x1x1, .i32⟩
  | 80 => ⟨S32768x1x1, .i1⟩
  | 81 => ⟨S32768x1x1, .i1⟩
  | 82 => ⟨S_, .i1⟩
  | 83 => ⟨S32768x1, .i1⟩
  | 84 => ⟨S32768x1, .f32⟩
  | 85 => ⟨S_, .f32⟩
  | 86 => ⟨S32768x1, .f32⟩
  | 87 => ⟨S32768x1, .f32⟩
  | 88 => ⟨S32768, .f32⟩
  | 89 => ⟨S8, .i32⟩
  | 90 => ⟨S1x8, .i32⟩
  | 91 => ⟨S32768x1, .i32⟩
  | 92 => ⟨S32768x8, .i32⟩
  | 93 => ⟨S32768x8, .i32⟩
  | 94 => ⟨S32768x8, .i1⟩
  | 95 => ⟨S32768x8, .i1⟩
  | 96 => ⟨S32768x1, .f32⟩
  | 97 => ⟨S32768, .f32⟩
  | 98 => ⟨S_, .f32⟩
  | 99 => ⟨S32768, .f32⟩
  | 100 => ⟨S32768, .i1⟩
  | 101 => ⟨S_, .f32⟩
  | 102 => ⟨S_, .f32⟩
  | 103 => ⟨S32768, .f32⟩
  | 104 => ⟨S32768, .f32⟩
  | 105 => ⟨S32768x1, .f32⟩
  | 106 => ⟨S32768x8, .f32⟩
  | 107 => ⟨S32768x8, .f32⟩
  | 108 => ⟨S32768x8, .f32⟩
  | 109 => ⟨S_, .f32⟩
  | 110 => ⟨S_, .f32⟩
  | 111 => ⟨S32768x8, .f32⟩
  | 112 => ⟨S32768x8, .f32⟩
  | 113 => ⟨S32768x8, .i32⟩
  | 114 => ⟨S32768x8, .f32⟩
  | 115 => ⟨S32768x8, .i32⟩
  | 116 => ⟨S32768x1, .i32⟩
  | 117 => ⟨S32768, .i32⟩
  | 118 => ⟨S32768x1, .i32⟩
  | 119 => ⟨S_, .i32⟩
  | 120 => ⟨S32768x1, .i32⟩
  | 121 => ⟨S32768x1, .i1⟩
  | 122 => ⟨S_, .i32⟩
  | 123 => ⟨S32768x1, .i32⟩
  | 124 => ⟨S32768x1, .i32⟩
  | 125 => ⟨S32768x1, .i32⟩
  | 126 => ⟨S32768x1x1, .i32⟩
  | 127 => ⟨S1, .i32⟩
  | _ => ⟨S32768x40, .f32⟩

abbrev hbmTy0_3 (i : Nat) : BufTy := match i % 128 with
  | 0 => ⟨S_, .i32⟩
  | 1 => ⟨S32768x1x1, .i32⟩
  | 2 => ⟨S32768x1x1, .i1⟩
  | 3 => ⟨S1x1x1, .i32⟩
  | 4 => ⟨S32768x1x1, .i32⟩
  | 5 => ⟨S32768x1x1, .i1⟩
  | 6 => ⟨S32768x1x1, .i1⟩
  | 7 => ⟨S_, .i1⟩
  | 8 => ⟨S32768x1, .i1⟩
  | 9 => ⟨S32768x1, .f32⟩
  | 10 => ⟨S_, .f32⟩
  | 11 => ⟨S32768x1, .f32⟩
  | 12 => ⟨S32768x1, .f32⟩
  | 13 => ⟨S32768, .f32⟩
  | 14 => ⟨S8, .i32⟩
  | 15 => ⟨S1x8, .i32⟩
  | 16 => ⟨S32768x1, .i32⟩
  | 17 => ⟨S32768x8, .i32⟩
  | 18 => ⟨S32768x8, .i32⟩
  | 19 => ⟨S32768x8, .i1⟩
  | 20 => ⟨S32768x8, .i1⟩
  | 21 => ⟨S32768x1, .f32⟩
  | 22 => ⟨S32768, .f32⟩
  | 23 => ⟨S_, .f32⟩
  | 24 => ⟨S32768, .f32⟩
  | 25 => ⟨S32768, .i1⟩
  | 26 => ⟨S_, .f32⟩
  | 27 => ⟨S_, .f32⟩
  | 28 => ⟨S32768, .f32⟩
  | 29 => ⟨S32768, .f32⟩
  | 30 => ⟨S32768x1, .f32⟩
  | 31 => ⟨S32768x8, .f32⟩
  | 32 => ⟨S32768x8, .f32⟩
  | 33 => ⟨S32768x8, .f32⟩
  | 34 => ⟨S_, .f32⟩
  | 35 => ⟨S_, .f32⟩
  | 36 => ⟨S32768x8, .f32⟩
  | 37 => ⟨S32768x8, .f32⟩
  | 38 => ⟨S32768x8, .i32⟩
  | 39 => ⟨S32768x8, .f32⟩
  | 40 => ⟨S32768x8, .i32⟩
  | 41 => ⟨S32768x1, .i32⟩
  | 42 => ⟨S32768, .i32⟩
  | 43 => ⟨S32768x1, .i32⟩
  | 44 => ⟨S_, .i32⟩
  | 45 => ⟨S32768x1, .i32⟩
  | 46 => ⟨S32768x1, .i1⟩
  | 47 => ⟨S_, .i32⟩
  | 48 => ⟨S32768x1, .i32⟩
  | 49 => ⟨S32768x1, .i32⟩
  | 50 => ⟨S32768x1, .i32⟩
  | 51 => ⟨S32768x1x1, .i32⟩
  | 52 => ⟨S1, .i32⟩
  | 53 => ⟨S_, .i32⟩
  | 54 => ⟨S32768x1x1, .i32⟩
  | 55 => ⟨S32768x1x1, .i1⟩
  | 56 => ⟨S1x1x1, .i32⟩
  | 57 => ⟨S32768x1x1, .i32⟩
  | 58 => ⟨S32768x1x1, .i1⟩
  | 59 => ⟨S32768x1x1, .i1⟩
  | 60 => ⟨S_, .i1⟩
  | 61 => ⟨S32768x1, .i1⟩
  | 62 => ⟨S32768x1, .f32⟩
  | 63 => ⟨S_, .f32⟩
  | 64 => ⟨S32768x1, .f32⟩
  | 65 => ⟨S32768x1, .f32⟩
  | 66 => ⟨S32768, .f32⟩
  | 67 => ⟨S8, .i32⟩
  | 68 => ⟨S1x8, .i32⟩
  | 69 => ⟨S32768x1, .i32⟩
  | 70 => ⟨S32768x8, .i32⟩
  | 71 => ⟨S32768x8, .i32⟩
  | 72 => ⟨S32768x8, .i1⟩
  | 73 => ⟨S32768x8, .i1⟩
  | 74 => ⟨S32768x1, .f32⟩
  | 75 => ⟨S32768, .f32⟩
  | 76 => ⟨S_, .f32⟩
  | 77 => ⟨S32768, .f32⟩
  | 78 => ⟨S32768, .i1⟩
  | 79 => ⟨S_, .f32⟩
  | 80 => ⟨S_, .f32⟩
  | 81 => ⟨S32768, .f32⟩
  | 82 => ⟨S32768, .f32⟩
  | 83 => ⟨S32768x1, .i32⟩
  | 84 => ⟨S32768x1, .i32⟩
  | 85 => ⟨S32768x1, .i32⟩
  | 86 => ⟨S32768x1, .i32⟩
  | 87 => ⟨S32768x4, .i32⟩
  | 88 => ⟨S32768x1, .f32⟩
  | 89 => ⟨S32768x1, .f32⟩
  | 90 => ⟨S32768x1, .f32⟩
  | 91 => ⟨S32768x1, .f32⟩
  | 92 => ⟨S32768x4, .f32⟩
  | 93 => ⟨S_, .i32⟩
  | 94 => ⟨S32768x4, .i32⟩
  | 95 => ⟨S32768x4, .i1⟩
  | 96 => ⟨S_, .i32⟩
  | 97 => ⟨S32768x4, .i32⟩
  | 98 => ⟨S32768x4, .i32⟩
  | 99 => ⟨S32768x4, .i32⟩
  | 100 => ⟨S32768x4x1, .i32⟩
  | 101 => ⟨S1, .i32⟩
  | 102 => ⟨S_, .i32⟩
  | 103 => ⟨S32768x4x1, .i32⟩
  | 104 => ⟨S32768x4x1, .i1⟩
  | 105 => ⟨S1x1x1, .i32⟩
  | 106 => ⟨S32768x4x1, .i32⟩
  | 107 => ⟨S32768x4x1, .i1⟩
  | 108 => ⟨S32768x4x1, .i1⟩
  | 109 => ⟨S_, .i1⟩
  | 110 => ⟨S32768x4, .i1⟩
  | 111 => ⟨S32768x4, .f32⟩
  | 112 => ⟨S_, .f32⟩
  | 113 => ⟨S32768x4, .f32⟩
  | 114 => ⟨S32768x4, .f32⟩
  | 115 => ⟨S_, .f32⟩
  | 116 => ⟨S32768x4, .f32⟩
  | 117 => ⟨S32768x4, .i1⟩
  | 118 => ⟨S_, .f32⟩
  | 119 => ⟨S32768x4, .f32⟩
  | 120 => ⟨S32768x4, .i1⟩
  | 121 => ⟨S32768x4, .i1⟩
  | 122 => ⟨S32768x4, .i32⟩
  | 123 => ⟨S_, .i32⟩
  | 124 => ⟨S_, .i32⟩
  | 125 => ⟨S32768x4, .f32⟩
  | 126 => ⟨S32768x4, .f32⟩
  | 127 => ⟨S_, .f32⟩
  | _ => ⟨S32768x40, .f32⟩

abbrev hbmTy0_4 (i : Nat) : BufTy := match i % 128 with
  | 0 => ⟨S32768x4, .f32⟩
  | 1 => ⟨S32768x4, .i1⟩
  | 2 => ⟨S_, .f32⟩
  | 3 => ⟨S32768x4, .f32⟩
  | 4 => ⟨S32768x4, .f32⟩
  | 5 => ⟨S32768x4, .f32⟩
  | 6 => ⟨S_, .f32⟩
  | 7 => ⟨S32768x4, .f32⟩
  | 8 => ⟨S32768x4, .f32⟩
  | 9 => ⟨S32768x4, .f32⟩
  | 10 => ⟨S32768x4, .f32⟩
  | 11 => ⟨S32768x4, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S32768x4, .f32⟩
  | 21 => ⟨S32768x4, .i1⟩
  | 22 => ⟨S_, .f32⟩
  | 23 => ⟨S_, .f32⟩
  | 24 => ⟨S32768x4, .f32⟩
  | 25 => ⟨S32768x4, .f32⟩
  | 26 => ⟨S_, .f32⟩
  | 27 => ⟨S_, .f32⟩
  | 28 => ⟨S32768x4, .i32⟩
  | 29 => ⟨S_, .i32⟩
  | 30 => ⟨S_, .i32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S8x512x512, .f32⟩
  | 39 => ⟨S8x512x512, .f32⟩
  | 40 => ⟨S_, .f32⟩
  | 41 => ⟨S8x512x512, .f32⟩
  | 42 => ⟨S8x512x512, .i1⟩
  | 43 => ⟨S_, .f32⟩
  | 44 => ⟨S8x512x512, .f32⟩
  | 45 => ⟨S8x512x512, .i1⟩
  | 46 => ⟨S8x512x512, .i1⟩
  | 47 => ⟨S8x512x512, .i1⟩
  | 48 => ⟨S8x512x512, .i1⟩
  | 49 => ⟨S512, .i32⟩
  | 50 => ⟨S1x1x512, .i32⟩
  | 51 => ⟨S8x512x512, .i32⟩
  | 52 => ⟨S8x512x512, .f32⟩
  | 53 => ⟨S8x512x512, .f32⟩
  | 54 => ⟨S_, .f32⟩
  | 55 => ⟨S8x512x512, .f32⟩
  | 56 => ⟨S8x512x512, .i1⟩
  | 57 => ⟨S8x512x512, .i1⟩
  | 58 => ⟨S8x512x512, .f32⟩
  | 59 => ⟨S_, .i32⟩
  | 60 => ⟨S_, .f32⟩
  | 61 => ⟨S8x512x512, .f32⟩
  | 62 => ⟨S8x512x512, .f32⟩
  | 63 => ⟨S8x512x512, .i32⟩
  | 64 => ⟨S8x512x512, .i1⟩
  | 65 => ⟨S_, .i32⟩
  | 66 => ⟨S8x512x512, .i32⟩
  | 67 => ⟨S8x512x512, .i1⟩
  | 68 => ⟨S_, .i32⟩
  | 69 => ⟨S8x512x512, .i32⟩
  | 70 => ⟨S8x512x512, .i32⟩
  | 71 => ⟨S8x512x512, .i32⟩
  | 72 => ⟨S8x512x512x1, .i32⟩
  | 73 => ⟨S1, .i32⟩
  | 74 => ⟨S_, .i32⟩
  | 75 => ⟨S8x512x512x1, .i32⟩
  | 76 => ⟨S8x512x512x1, .i1⟩
  | 77 => ⟨S1x1x1x1, .i32⟩
  | 78 => ⟨S8x512x512x1, .i32⟩
  | 79 => ⟨S8x512x512x1, .i1⟩
  | 80 => ⟨S8x512x512x1, .i1⟩
  | 81 => ⟨S_, .i1⟩
  | 82 => ⟨S8x512x512, .i1⟩
  | 83 => ⟨S8x512x512, .i1⟩
  | 84 => ⟨S_, .i1⟩
  | 85 => ⟨S8x512x512, .i1⟩
  | 86 => ⟨S8x512x512, .i1⟩
  | 87 => ⟨S8x512x512, .i1⟩
  | 88 => ⟨S_, .f32⟩
  | 89 => ⟨S8x512x512, .f32⟩
  | 90 => ⟨S8x512x512, .f32⟩
  | 91 => ⟨S_, .f32⟩
  | 92 => ⟨S_, .f32⟩
  | 93 => ⟨S8x512x512, .f32⟩
  | 94 => ⟨S8x512x512, .f32⟩
  | 95 => ⟨S8x512x512, .f32⟩
  | 96 => ⟨S8x64x8x64x8, .f32⟩
  | 97 => ⟨S8x64x64x8x8, .f32⟩
  | 98 => ⟨S32768x64, .f32⟩
  | 99 => ⟨S8x64x8x64x8, .f32⟩
  | 100 => ⟨S8x64x64x8x8, .f32⟩
  | 101 => ⟨S32768x64, .f32⟩
  | 102 => ⟨S8x512x512, .f32⟩
  | 103 => ⟨S8x64x8x64x8, .f32⟩
  | 104 => ⟨S8x64x64x8x8, .f32⟩
  | 105 => ⟨S32768x64, .f32⟩
  | 106 => ⟨S32768x64, .f32⟩
  | 107 => ⟨S32768x64, .i32⟩
  | 108 => ⟨S_, .i32⟩
  | 109 => ⟨S32768x64, .i32⟩
  | 110 => ⟨S32768x64, .i32⟩
  | 111 => ⟨S32768x64, .f32⟩
  | 112 => ⟨S32768x64, .f32⟩
  | 113 => ⟨S_, .i32⟩
  | 114 => ⟨S32768x64, .i32⟩
  | 115 => ⟨S32768x64, .i32⟩
  | 116 => ⟨S_, .i32⟩
  | 117 => ⟨S32768x64, .i32⟩
  | 118 => ⟨S32768x64, .i32⟩
  | 119 => ⟨S_, .f32⟩
  | 120 => ⟨S32768x64, .f32⟩
  | 121 => ⟨S32768x64, .f32⟩
  | 122 => ⟨S32768x64, .f32⟩
  | 123 => ⟨S32768x64, .f32⟩
  | 124 => ⟨S32768x64, .f32⟩
  | 125 => ⟨S32768x64, .f32⟩
  | 126 => ⟨S32768, .i32⟩
  | 127 => ⟨S32768x1, .i32⟩
  | _ => ⟨S32768x40, .f32⟩

abbrev hbmTy0_5 (i : Nat) : BufTy := match i % 128 with
  | 0 => ⟨S_, .f32⟩
  | 1 => ⟨S32768x40, .f32⟩
  | 2 => ⟨S_, .i32⟩
  | 3 => ⟨S32768x1, .i32⟩
  | 4 => ⟨S32768x1, .i1⟩
  | 5 => ⟨S_, .i32⟩
  | 6 => ⟨S32768x1, .i32⟩
  | 7 => ⟨S32768x1, .i32⟩
  | 8 => ⟨S32768x1, .i32⟩
  | 9 => ⟨S_, .i32⟩
  | 10 => ⟨S32768x64, .i32⟩
  | 11 => ⟨S32768x64, .i1⟩
  | 12 => ⟨S_, .i32⟩
  | 13 => ⟨S32768x64, .i32⟩
  | 14 => ⟨S32768x64, .i32⟩
  | 15 => ⟨S32768x64, .i32⟩
  | 16 => ⟨S32768x64, .i32⟩
  | 17 => ⟨S32768x64x1, .i32⟩
  | 18 => ⟨S32768x64x1, .i32⟩
  | 19 => ⟨S32768x64x2, .i32⟩
  | 20 => ⟨S32768x40, .f32⟩
  | 21 => ⟨S_, .i32⟩
  | 22 => ⟨S32768x1, .i32⟩
  | 23 => ⟨S32768x1, .i1⟩
  | 24 => ⟨S_, .i32⟩
  | 25 => ⟨S32768x1, .i32⟩
  | 26 => ⟨S32768x1, .i32⟩
  | 27 => ⟨S32768x1, .i32⟩
  | 28 => ⟨S_, .i32⟩
  | 29 => ⟨S32768x64, .i32⟩
  | 30 => ⟨S32768x64, .i1⟩
  | 31 => ⟨S_, .i32⟩
  | 32 => ⟨S32768x64, .i32⟩
  | 33 => ⟨S32768x64, .i32⟩
  | 34 => ⟨S32768x64, .i32⟩
  | 35 => ⟨S32768x64, .i32⟩
  | 36 => ⟨S32768x64x1, .i32⟩
  | 37 => ⟨S32768x64x1, .i32⟩
  | 38 => ⟨S32768x64x2, .i32⟩
  | 39 => ⟨S32768x40, .f32⟩
  | 40 => ⟨S_, .f32⟩
  | 41 => ⟨S32768, .f32⟩
  | 42 => ⟨S32768x1, .f32⟩
  | 43 => ⟨S_, .f32⟩
  | 44 => ⟨S_, .f32⟩
  | 45 => ⟨S32768x1, .f32⟩
  | 46 => ⟨S32768x1, .f32⟩
  | 47 => ⟨S32768x40, .f32⟩
  | 48 => ⟨S32768x40, .f32⟩
  | 49 => ⟨S_, .f32⟩
  | 50 => ⟨S32768x40, .f32⟩
  | 51 => ⟨S32768x40, .i1⟩
  | 52 => ⟨S_, .f32⟩
  | 53 => ⟨S_, .f32⟩
  | 54 => ⟨S32768x40, .f32⟩
  | 55 => ⟨S32768x40, .f32⟩
  | 56 => ⟨S32768x40, .f32⟩
  | 57 => ⟨S32768x40, .f32⟩
  | 58 => ⟨S_, .f32⟩
  | 59 => ⟨S_, .f32⟩
  | 60 => ⟨S32768x40, .f32⟩
  | 61 => ⟨S32768x40, .f32⟩
  | 62 => ⟨S_, .f32⟩
  | 63 => ⟨S_, .f32⟩
  | 64 => ⟨S_, .f32⟩
  | 65 => ⟨S_, .f32⟩
  | 66 => ⟨S32768, .f32⟩
  | 67 => ⟨S_, .f32⟩
  | 68 => ⟨S32768, .f32⟩
  | 69 => ⟨S32768, .i1⟩
  | 70 => ⟨S32768, .i32⟩
  | 71 => ⟨S_, .i32⟩
  | 72 => ⟨S_, .i32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S8x512x512, .f32⟩
  | 80 => ⟨S8x512x512, .f32⟩
  | 81 => ⟨S_, .f32⟩
  | 82 => ⟨S8x512x512, .f32⟩
  | 83 => ⟨S8x512x512, .i1⟩
  | 84 => ⟨S_, .f32⟩
  | 85 => ⟨S8x512x512, .f32⟩
  | 86 => ⟨S8x512x512, .i1⟩
  | 87 => ⟨S8x512x512, .i1⟩
  | 88 => ⟨S8x512x512, .f32⟩
  | 89 => ⟨S8x512x512, .f32⟩
  | 90 => ⟨S_, .f32⟩
  | 91 => ⟨S8x512x512, .f32⟩
  | 92 => ⟨S8x512x512, .i1⟩
  | 93 => ⟨S_, .f32⟩
  | 94 => ⟨S8x512x512, .f32⟩
  | 95 => ⟨S8x512x512, .f32⟩
  | 96 => ⟨S8x512x512, .f32⟩
  | 97 => ⟨S_, .f32⟩
  | 98 => ⟨S8x512x512, .f32⟩
  | 99 => ⟨S8x512x512, .f32⟩
  | 100 => ⟨S8x512x512, .f32⟩
  | 101 => ⟨S8x512x512, .f32⟩
  | 102 => ⟨S8x512x512, .f32⟩
  | 103 => ⟨S_, .f32⟩
  | 104 => ⟨S_, .f32⟩
  | 105 => ⟨S8x512x512, .i32⟩
  | 106 => ⟨S_, .i32⟩
  | 107 => ⟨S_, .i32⟩
  | 108 => ⟨S_, .i32⟩
  | 109 => ⟨S_, .i32⟩
  | 110 => ⟨S_, .f32⟩
  | 111 => ⟨S_, .f32⟩
  | 112 => ⟨S_, .f32⟩
  | 113 => ⟨S8x512x512, .f32⟩
  | 114 => ⟨S8x512x512, .i1⟩
  | 115 => ⟨S_, .f32⟩
  | 116 => ⟨S8x512x512, .f32⟩
  | 117 => ⟨S8x512x512, .i1⟩
  | 118 => ⟨S8x512x512, .i1⟩
  | 119 => ⟨S8x512x512, .f32⟩
  | 120 => ⟨S8x512x512, .f32⟩
  | 121 => ⟨S8x512x512, .f32⟩
  | 122 => ⟨S8x512x512, .f32⟩
  | 123 => ⟨S_, .f32⟩
  | 124 => ⟨S_, .f32⟩
  | 125 => ⟨S8x512x512, .i32⟩
  | 126 => ⟨S_, .i32⟩
  | 127 => ⟨S_, .i32⟩
  | _ => ⟨S32768x40, .f32⟩

abbrev hbmTy0_6 (i : Nat) : BufTy := match i % 128 with
  | 0 => ⟨S_, .i32⟩
  | 1 => ⟨S_, .i32⟩
  | 2 => ⟨S_, .f32⟩
  | 3 => ⟨S_, .f32⟩
  | 4 => ⟨S1, .f32⟩
  | 5 => ⟨S1, .f32⟩
  | 6 => ⟨S1, .f32⟩
  | 7 => ⟨S1, .f32⟩
  | 8 => ⟨S1, .f32⟩
  | 9 => ⟨S5, .f32⟩
  | _ => ⟨S32768x40, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S32768x40, .f32⟩

abbrev bufTy : (tb : Table) → Fin (tcTables nBuf tb) → BufTy
  | .hbm, ⟨i, _⟩ => hbmTy i
  | _, _ => ⟨S32768x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_c_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_call2_v0 : Ref sig .tc := ⟨.hbm, 48, rfl⟩
abbrev main_call2_v1 : Ref sig .tc := ⟨.hbm, 49, rfl⟩
abbrev main_v25 : Ref sig .tc := ⟨.hbm, 50, rfl⟩
abbrev main_c_8 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_v31 : Ref sig .tc := ⟨.hbm, 61, rfl⟩
abbrev main_cst_11 : Ref sig .tc := ⟨.hbm, 62, rfl⟩
abbrev main_v32 : Ref sig .tc := ⟨.hbm, 63, rfl⟩
abbrev main_v33 : Ref sig .tc := ⟨.hbm, 64, rfl⟩
abbrev main_c_12 : Ref sig .tc := ⟨.hbm, 65, rfl⟩
abbrev main_v34 : Ref sig .tc := ⟨.hbm, 66, rfl⟩
abbrev main_c_13 : Ref sig .tc := ⟨.hbm, 67, rfl⟩
abbrev main_v35 : Ref sig .tc := ⟨.hbm, 68, rfl⟩
abbrev main_v36 : Ref sig .tc := ⟨.hbm, 69, rfl⟩
abbrev main_c_14 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_15 : Ref sig .tc := ⟨.hbm, 75, rfl⟩
abbrev main_call4_v0 : Ref sig .tc := ⟨.hbm, 76, rfl⟩
abbrev main_call4_v1 : Ref sig .tc := ⟨.hbm, 77, rfl⟩
abbrev main_v41 : Ref sig .tc := ⟨.hbm, 78, rfl⟩
abbrev main_c_16 : Ref sig .tc := ⟨.hbm, 79, rfl⟩
abbrev main_v42 : Ref sig .tc := ⟨.hbm, 80, rfl⟩
abbrev main_v43 : Ref sig .tc := ⟨.hbm, 81, rfl⟩
abbrev main_cst_17 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_18 : Ref sig .tc := ⟨.hbm, 86, rfl⟩
abbrev main_call5_v0 : Ref sig .tc := ⟨.hbm, 87, rfl⟩
abbrev main_call5_v1 : Ref sig .tc := ⟨.hbm, 88, rfl⟩
abbrev main_v47 : Ref sig .tc := ⟨.hbm, 89, rfl⟩
abbrev main_cst_19 : Ref sig .tc := ⟨.hbm, 90, rfl⟩
abbrev main_v48 : Ref sig .tc := ⟨.hbm, 91, rfl⟩
abbrev main_v49 : Ref sig .tc := ⟨.hbm, 92, rfl⟩
abbrev main_c_20 : Ref sig .tc := ⟨.hbm, 93, rfl⟩
abbrev main_v50 : Ref sig .tc := ⟨.hbm, 94, rfl⟩
abbrev main_c_21 : Ref sig .tc := ⟨.hbm, 95, rfl⟩
abbrev main_v51 : Ref sig .tc := ⟨.hbm, 96, rfl⟩
abbrev main_v52 : Ref sig .tc := ⟨.hbm, 97, rfl⟩
abbrev main_c_22 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_23 : Ref sig .tc := ⟨.hbm, 103, rfl⟩
abbrev main_call6_v0 : Ref sig .tc := ⟨.hbm, 104, rfl⟩
abbrev main_call6_v1 : Ref sig .tc := ⟨.hbm, 105, rfl⟩
abbrev main_v57 : Ref sig .tc := ⟨.hbm, 106, rfl⟩
abbrev main_c_24 : Ref sig .tc := ⟨.hbm, 107, rfl⟩
abbrev main_v58 : Ref sig .tc := ⟨.hbm, 108, rfl⟩
abbrev main_v59 : Ref sig .tc := ⟨.hbm, 109, rfl⟩
abbrev main_cst_25 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_26 : Ref sig .tc := ⟨.hbm, 114, rfl⟩
abbrev main_call7_v0 : Ref sig .tc := ⟨.hbm, 115, rfl⟩
abbrev main_call7_v1 : Ref sig .tc := ⟨.hbm, 116, rfl⟩
abbrev main_v63 : Ref sig .tc := ⟨.hbm, 117, rfl⟩
abbrev main_cst_27 : Ref sig .tc := ⟨.hbm, 118, rfl⟩
abbrev main_v64 : Ref sig .tc := ⟨.hbm, 119, rfl⟩
abbrev main_v65 : Ref sig .tc := ⟨.hbm, 120, rfl⟩
abbrev main_c_28 : Ref sig .tc := ⟨.hbm, 121, rfl⟩
abbrev main_v66 : Ref sig .tc := ⟨.hbm, 122, rfl⟩
abbrev main_c_29 : Ref sig .tc := ⟨.hbm, 123, rfl⟩
abbrev main_v67 : Ref sig .tc := ⟨.hbm, 124, rfl⟩
abbrev main_v68 : Ref sig .tc := ⟨.hbm, 125, rfl⟩
abbrev main_c_30 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_31 : Ref sig .tc := ⟨.hbm, 131, rfl⟩
abbrev main_call8_v0 : Ref sig .tc := ⟨.hbm, 132, rfl⟩
abbrev main_call8_v1 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_32 : Ref sig .tc := ⟨.hbm, 140, rfl⟩
abbrev main_v79 : Ref sig .tc := ⟨.hbm, 141, rfl⟩
abbrev main_v80 : Ref sig .tc := ⟨.hbm, 142, rfl⟩
abbrev main_cst_33 : Ref sig .tc := ⟨.hbm, 143, rfl⟩
abbrev main_call9_v0 : Ref sig .tc := ⟨.hbm, 144, rfl⟩
abbrev main_call9_v1 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_34 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_35 : Ref sig .tc := ⟨.hbm, 157, rfl⟩
abbrev main_call10_v0 : Ref sig .tc := ⟨.hbm, 158, rfl⟩
abbrev main_call10_v1 : Ref sig .tc := ⟨.hbm, 159, rfl⟩
abbrev main_call10_v2 : Ref sig .tc := ⟨.hbm, 160, rfl⟩
abbrev main_v91 : Ref sig .tc := ⟨.hbm, 161, rfl⟩
abbrev main_cst_36 : Ref sig .tc := ⟨.hbm, 162, rfl⟩
abbrev main_v92 : Ref sig .tc := ⟨.hbm, 163, rfl⟩
abbrev main_call11_v0 : Ref sig .tc := ⟨.hbm, 164, rfl⟩
abbrev main_call11_v1_0 : Ref sig .tc := ⟨.hbm, 165, rfl⟩
abbrev main_v93 : Ref sig .tc := ⟨.hbm, 166, rfl⟩
abbrev main_call12_c : Ref sig .tc := ⟨.hbm, 167, rfl⟩
abbrev main_call12_v0 : Ref sig .tc := ⟨.hbm, 168, rfl⟩
abbrev main_call12_v1 : Ref sig .tc := ⟨.hbm, 169, rfl⟩
abbrev main_call12_c_0 : Ref sig .tc := ⟨.hbm, 170, rfl⟩
abbrev main_call12_v2 : Ref sig .tc := ⟨.hbm, 171, rfl⟩
abbrev main_call12_v3 : Ref sig .tc := ⟨.hbm, 172, rfl⟩
abbrev main_call12_v4 : Ref sig .tc := ⟨.hbm, 173, rfl⟩
abbrev main_call12_v5 : Ref sig .tc := ⟨.hbm, 174, rfl⟩
abbrev main_call12_c_1 : Ref sig .tc := ⟨.hbm, 175, rfl⟩
abbrev main_call12_c_2 : Ref sig .tc := ⟨.hbm, 176, rfl⟩
abbrev main_call12_v6 : Ref sig .tc := ⟨.hbm, 177, rfl⟩
abbrev main_call12_v7 : Ref sig .tc := ⟨.hbm, 178, rfl⟩
abbrev main_call12_v8 : Ref sig .tc := ⟨.hbm, 179, rfl⟩
abbrev main_call12_v9 : Ref sig .tc := ⟨.hbm, 180, rfl⟩
abbrev main_call12_v10 : Ref sig .tc := ⟨.hbm, 181, rfl⟩
abbrev main_call12_v11 : Ref sig .tc := ⟨.hbm, 182, rfl⟩
abbrev main_call12_c_3 : Ref sig .tc := ⟨.hbm, 183, rfl⟩
abbrev main_call12_v12 : Ref sig .tc := ⟨.hbm, 184, rfl⟩
abbrev main_call12_v13 : Ref sig .tc := ⟨.hbm, 185, rfl⟩
abbrev main_call12_cst : Ref sig .tc := ⟨.hbm, 186, rfl⟩
abbrev main_call12_v14 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_cst_37 : Ref sig .tc := ⟨.hbm, 195, rfl⟩
abbrev main_v101 : Ref sig .tc := ⟨.hbm, 196, rfl⟩
abbrev main_v102 : Ref sig .tc := ⟨.hbm, 197, rfl⟩
abbrev main_cst_38 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_cst_39 : Ref sig .tc := ⟨.hbm, 204, rfl⟩
abbrev main_call13_v0 : Ref sig .tc := ⟨.hbm, 205, rfl⟩
abbrev main_call13_v1 : Ref sig .tc := ⟨.hbm, 206, rfl⟩
abbrev main_v108 : Ref sig .tc := ⟨.hbm, 207, rfl⟩
abbrev main_c_40 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_cst_41 : Ref sig .tc := ⟨.hbm, 217, rfl⟩
abbrev main_v117 : Ref sig .tc := ⟨.hbm, 218, rfl⟩
abbrev main_v118 : Ref sig .tc := ⟨.hbm, 219, rfl⟩
abbrev main_cst_42 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_cst_43 : Ref sig .tc := ⟨.hbm, 226, rfl⟩
abbrev main_call14_v0 : Ref sig .tc := ⟨.hbm, 227, rfl⟩
abbrev main_call14_v1 : Ref sig .tc := ⟨.hbm, 228, rfl⟩
abbrev main_v124 : Ref sig .tc := ⟨.hbm, 229, rfl⟩
abbrev main_c_44 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_cst_45 : Ref sig .tc := ⟨.hbm, 238, rfl⟩
abbrev main_v132 : Ref sig .tc := ⟨.hbm, 239, rfl⟩
abbrev main_v133 : Ref sig .tc := ⟨.hbm, 240, rfl⟩
abbrev main_cst_46 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_cst_47 : Ref sig .tc := ⟨.hbm, 246, rfl⟩
abbrev main_call15_v0 : Ref sig .tc := ⟨.hbm, 247, rfl⟩
abbrev main_call15_v1 : Ref sig .tc := ⟨.hbm, 248, rfl⟩
abbrev main_v138 : Ref sig .tc := ⟨.hbm, 249, rfl⟩
abbrev main_c_48 : Ref sig .tc := ⟨.hbm, 250, rfl⟩
abbrev main_v139 : Ref sig .tc := ⟨.hbm, 251, rfl⟩
abbrev main_v140 : Ref sig .tc := ⟨.hbm, 252, rfl⟩
abbrev main_c_49 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_cst_50 : Ref sig .tc := ⟨.hbm, 259, rfl⟩
abbrev main_call16_v0 : Ref sig .tc := ⟨.hbm, 260, rfl⟩
abbrev main_call16_v1 : Ref sig .tc := ⟨.hbm, 261, rfl⟩
abbrev main_v146 : Ref sig .tc := ⟨.hbm, 262, rfl⟩
abbrev main_call17_v0 : Ref sig .tc := ⟨.hbm, 263, rfl⟩
abbrev main_call17_v1_0 : Ref sig .tc := ⟨.hbm, 264, rfl⟩
abbrev main_v147 : Ref sig .tc := ⟨.hbm, 265, rfl⟩
abbrev main_v148 : Ref sig .tc := ⟨.hbm, 266, rfl⟩
abbrev main_v149 : Ref sig .tc := ⟨.hbm, 267, rfl⟩
abbrev main_v150 : Ref sig .tc := ⟨.hbm, 268, rfl⟩
abbrev main_call18_c : Ref sig .tc := ⟨.hbm, 269, rfl⟩
abbrev main_call18_v0 : Ref sig .tc := ⟨.hbm, 270, rfl⟩
abbrev main_call18_v1 : Ref sig .tc := ⟨.hbm, 271, rfl⟩
abbrev main_call18_c_0 : Ref sig .tc := ⟨.hbm, 272, rfl⟩
abbrev main_call18_v2 : Ref sig .tc := ⟨.hbm, 273, rfl⟩
abbrev main_call18_v3 : Ref sig .tc := ⟨.hbm, 274, rfl⟩
abbrev main_call18_v4 : Ref sig .tc := ⟨.hbm, 275, rfl⟩
abbrev main_call18_v5 : Ref sig .tc := ⟨.hbm, 276, rfl⟩
abbrev main_call18_c_1 : Ref sig .tc := ⟨.hbm, 277, rfl⟩
abbrev main_call18_c_2 : Ref sig .tc := ⟨.hbm, 278, rfl⟩
abbrev main_call18_v6 : Ref sig .tc := ⟨.hbm, 279, rfl⟩
abbrev main_call18_v7 : Ref sig .tc := ⟨.hbm, 280, rfl⟩
abbrev main_call18_v8 : Ref sig .tc := ⟨.hbm, 281, rfl⟩
abbrev main_call18_v9 : Ref sig .tc := ⟨.hbm, 282, rfl⟩
abbrev main_call18_v10 : Ref sig .tc := ⟨.hbm, 283, rfl⟩
abbrev main_call18_v11 : Ref sig .tc := ⟨.hbm, 284, rfl⟩
abbrev main_call18_c_3 : Ref sig .tc := ⟨.hbm, 285, rfl⟩
abbrev main_call18_v12 : Ref sig .tc := ⟨.hbm, 286, rfl⟩
abbrev main_call18_v13 : Ref sig .tc := ⟨.hbm, 287, rfl⟩
abbrev main_call18_cst : Ref sig .tc := ⟨.hbm, 288, rfl⟩
abbrev main_call18_v14 : Ref sig .tc := ⟨.hbm, 289, rfl⟩
abbrev main_v151 : Ref sig .tc := ⟨.hbm, 290, rfl⟩
abbrev main_v152 : Ref sig .tc := ⟨.hbm, 291, rfl⟩
abbrev main_v153 : Ref sig .tc := ⟨.hbm, 292, rfl⟩
abbrev main_v154 : Ref sig .tc := ⟨.hbm, 293, rfl⟩
abbrev main_v155 : Ref sig .tc := ⟨.hbm, 294, rfl⟩
abbrev main_v156 : Ref sig .tc := ⟨.hbm, 295, rfl⟩
abbrev main_v157 : Ref sig .tc := ⟨.hbm, 296, rfl⟩
abbrev main_v158 : Ref sig .tc := ⟨.hbm, 297, rfl⟩
abbrev main_v159 : Ref sig .tc := ⟨.hbm, 298, rfl⟩
abbrev main_v160 : Ref sig .tc := ⟨.hbm, 299, rfl⟩
abbrev main_v161 : Ref sig .tc := ⟨.hbm, 300, rfl⟩
abbrev main_cst_51 : Ref sig .tc := ⟨.hbm, 301, rfl⟩
abbrev main_v162 : Ref sig .tc := ⟨.hbm, 302, rfl⟩
abbrev main_v163 : Ref sig .tc := ⟨.hbm, 303, rfl⟩
abbrev main_cst_52 : Ref sig .tc := ⟨.hbm, 304, rfl⟩
abbrev main_call19_v0 : Ref sig .tc := ⟨.hbm, 305, rfl⟩
abbrev main_call19_v1 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_cst_53 : Ref sig .tc := ⟨.hbm, 312, rfl⟩
abbrev main_call20_v0 : Ref sig .tc := ⟨.hbm, 313, rfl⟩
abbrev main_call20_v1 : Ref sig .tc := ⟨.hbm, 314, rfl⟩
abbrev main_v169 : Ref sig .tc := ⟨.hbm, 315, rfl⟩
abbrev main_call21_v0 : Ref sig .tc := ⟨.hbm, 316, rfl⟩
abbrev main_call21_v1_0 : Ref sig .tc := ⟨.hbm, 317, rfl⟩
abbrev main_v170 : Ref sig .tc := ⟨.hbm, 318, rfl⟩
abbrev main_v171 : Ref sig .tc := ⟨.hbm, 319, rfl⟩
abbrev main_v172 : Ref sig .tc := ⟨.hbm, 320, rfl⟩
abbrev main_v173 : Ref sig .tc := ⟨.hbm, 321, rfl⟩
abbrev main_call22_c : Ref sig .tc := ⟨.hbm, 322, rfl⟩
abbrev main_call22_v0 : Ref sig .tc := ⟨.hbm, 323, rfl⟩
abbrev main_call22_v1 : Ref sig .tc := ⟨.hbm, 324, rfl⟩
abbrev main_call22_c_0 : Ref sig .tc := ⟨.hbm, 325, rfl⟩
abbrev main_call22_v2 : Ref sig .tc := ⟨.hbm, 326, rfl⟩
abbrev main_call22_v3 : Ref sig .tc := ⟨.hbm, 327, rfl⟩
abbrev main_call22_v4 : Ref sig .tc := ⟨.hbm, 328, rfl⟩
abbrev main_call22_v5 : Ref sig .tc := ⟨.hbm, 329, rfl⟩
abbrev main_call22_c_1 : Ref sig .tc := ⟨.hbm, 330, rfl⟩
abbrev main_call22_c_2 : Ref sig .tc := ⟨.hbm, 331, rfl⟩
abbrev main_call22_v6 : Ref sig .tc := ⟨.hbm, 332, rfl⟩
abbrev main_call22_v7 : Ref sig .tc := ⟨.hbm, 333, rfl⟩
abbrev main_call22_v8 : Ref sig .tc := ⟨.hbm, 334, rfl⟩
abbrev main_call22_v9 : Ref sig .tc := ⟨.hbm, 335, rfl⟩
abbrev main_call22_v10 : Ref sig .tc := ⟨.hbm, 336, rfl⟩
abbrev main_call22_v11 : Ref sig .tc := ⟨.hbm, 337, rfl⟩
abbrev main_call22_c_3 : Ref sig .tc := ⟨.hbm, 338, rfl⟩
abbrev main_call22_v12 : Ref sig .tc := ⟨.hbm, 339, rfl⟩
abbrev main_call22_v13 : Ref sig .tc := ⟨.hbm, 340, rfl⟩
abbrev main_call22_cst : Ref sig .tc := ⟨.hbm, 341, rfl⟩
abbrev main_call22_v14 : Ref sig .tc := ⟨.hbm, 342, rfl⟩
abbrev main_v174 : Ref sig .tc := ⟨.hbm, 343, rfl⟩
abbrev main_v175 : Ref sig .tc := ⟨.hbm, 344, rfl⟩
abbrev main_v176 : Ref sig .tc := ⟨.hbm, 345, rfl⟩
abbrev main_v177 : Ref sig .tc := ⟨.hbm, 346, rfl⟩
abbrev main_v178 : Ref sig .tc := ⟨.hbm, 347, rfl⟩
abbrev main_v179 : Ref sig .tc := ⟨.hbm, 348, rfl⟩
abbrev main_v180 : Ref sig .tc := ⟨.hbm, 349, rfl⟩
abbrev main_v181 : Ref sig .tc := ⟨.hbm, 350, rfl⟩
abbrev main_v182 : Ref sig .tc := ⟨.hbm, 351, rfl⟩
abbrev main_v183 : Ref sig .tc := ⟨.hbm, 352, rfl⟩
abbrev main_v184 : Ref sig .tc := ⟨.hbm, 353, rfl⟩
abbrev main_cst_54 : Ref sig .tc := ⟨.hbm, 354, rfl⟩
abbrev main_v185 : Ref sig .tc := ⟨.hbm, 355, rfl⟩
abbrev main_v186 : Ref sig .tc := ⟨.hbm, 356, rfl⟩
abbrev main_cst_55 : Ref sig .tc := ⟨.hbm, 357, rfl⟩
abbrev main_call23_v0 : Ref sig .tc := ⟨.hbm, 358, rfl⟩
abbrev main_call23_v1 : Ref sig .tc := ⟨.hbm, 359, rfl⟩
abbrev main_v187 : Ref sig .tc := ⟨.hbm, 360, rfl⟩
abbrev main_v188 : Ref sig .tc := ⟨.hbm, 361, rfl⟩
abbrev main_v189 : Ref sig .tc := ⟨.hbm, 362, rfl⟩
abbrev main_v190 : Ref sig .tc := ⟨.hbm, 363, rfl⟩
abbrev main_v191 : Ref sig .tc := ⟨.hbm, 364, rfl⟩
abbrev main_cst_56 : Ref sig .tc := ⟨.hbm, 365, rfl⟩
abbrev main_call24_v0 : Ref sig .tc := ⟨.hbm, 366, rfl⟩
abbrev main_call24_v1 : Ref sig .tc := ⟨.hbm, 367, rfl⟩
abbrev main_v192 : Ref sig .tc := ⟨.hbm, 368, rfl⟩
abbrev main_call25_v0 : Ref sig .tc := ⟨.hbm, 369, rfl⟩
abbrev main_call25_v1_0 : Ref sig .tc := ⟨.hbm, 370, rfl⟩
abbrev main_v193 : Ref sig .tc := ⟨.hbm, 371, rfl⟩
abbrev main_v194 : Ref sig .tc := ⟨.hbm, 372, rfl⟩
abbrev main_v195 : Ref sig .tc := ⟨.hbm, 373, rfl⟩
abbrev main_v196 : Ref sig .tc := ⟨.hbm, 374, rfl⟩
abbrev main_call26_c : Ref sig .tc := ⟨.hbm, 375, rfl⟩
abbrev main_call26_v0 : Ref sig .tc := ⟨.hbm, 376, rfl⟩
abbrev main_call26_v1 : Ref sig .tc := ⟨.hbm, 377, rfl⟩
abbrev main_call26_c_0 : Ref sig .tc := ⟨.hbm, 378, rfl⟩
abbrev main_call26_v2 : Ref sig .tc := ⟨.hbm, 379, rfl⟩
abbrev main_call26_v3 : Ref sig .tc := ⟨.hbm, 380, rfl⟩
abbrev main_call26_v4 : Ref sig .tc := ⟨.hbm, 381, rfl⟩
abbrev main_call26_v5 : Ref sig .tc := ⟨.hbm, 382, rfl⟩
abbrev main_call26_c_1 : Ref sig .tc := ⟨.hbm, 383, rfl⟩
abbrev main_call26_c_2 : Ref sig .tc := ⟨.hbm, 384, rfl⟩
abbrev main_call26_v6 : Ref sig .tc := ⟨.hbm, 385, rfl⟩
abbrev main_call26_v7 : Ref sig .tc := ⟨.hbm, 386, rfl⟩
abbrev main_call26_v8 : Ref sig .tc := ⟨.hbm, 387, rfl⟩
abbrev main_call26_v9 : Ref sig .tc := ⟨.hbm, 388, rfl⟩
abbrev main_call26_v10 : Ref sig .tc := ⟨.hbm, 389, rfl⟩
abbrev main_call26_v11 : Ref sig .tc := ⟨.hbm, 390, rfl⟩
abbrev main_call26_c_3 : Ref sig .tc := ⟨.hbm, 391, rfl⟩
abbrev main_call26_v12 : Ref sig .tc := ⟨.hbm, 392, rfl⟩
abbrev main_call26_v13 : Ref sig .tc := ⟨.hbm, 393, rfl⟩
abbrev main_call26_cst : Ref sig .tc := ⟨.hbm, 394, rfl⟩
abbrev main_call26_v14 : Ref sig .tc := ⟨.hbm, 395, rfl⟩
abbrev main_v197 : Ref sig .tc := ⟨.hbm, 396, rfl⟩
abbrev main_v198 : Ref sig .tc := ⟨.hbm, 397, rfl⟩
abbrev main_v199 : Ref sig .tc := ⟨.hbm, 398, rfl⟩
abbrev main_v200 : Ref sig .tc := ⟨.hbm, 399, rfl⟩
abbrev main_v201 : Ref sig .tc := ⟨.hbm, 400, rfl⟩
abbrev main_v202 : Ref sig .tc := ⟨.hbm, 401, rfl⟩
abbrev main_v203 : Ref sig .tc := ⟨.hbm, 402, rfl⟩
abbrev main_v204 : Ref sig .tc := ⟨.hbm, 403, rfl⟩
abbrev main_v205 : Ref sig .tc := ⟨.hbm, 404, rfl⟩
abbrev main_v206 : Ref sig .tc := ⟨.hbm, 405, rfl⟩
abbrev main_v207 : Ref sig .tc := ⟨.hbm, 406, rfl⟩
abbrev main_cst_57 : Ref sig .tc := ⟨.hbm, 407, rfl⟩
abbrev main_v208 : Ref sig .tc := ⟨.hbm, 408, rfl⟩
abbrev main_v209 : Ref sig .tc := ⟨.hbm, 409, rfl⟩
abbrev main_cst_58 : Ref sig .tc := ⟨.hbm, 410, rfl⟩
abbrev main_call27_v0 : Ref sig .tc := ⟨.hbm, 411, rfl⟩
abbrev main_call27_v1 : Ref sig .tc := ⟨.hbm, 412, rfl⟩
abbrev main_v210 : Ref sig .tc := ⟨.hbm, 413, rfl⟩
abbrev main_v211 : Ref sig .tc := ⟨.hbm, 414, rfl⟩
abbrev main_v212 : Ref sig .tc := ⟨.hbm, 415, rfl⟩
abbrev main_v213 : Ref sig .tc := ⟨.hbm, 416, rfl⟩
abbrev main_v214 : Ref sig .tc := ⟨.hbm, 417, rfl⟩
abbrev main_cst_59 : Ref sig .tc := ⟨.hbm, 418, rfl⟩
abbrev main_call28_v0 : Ref sig .tc := ⟨.hbm, 419, rfl⟩
abbrev main_call28_v1 : Ref sig .tc := ⟨.hbm, 420, rfl⟩
abbrev main_v215 : Ref sig .tc := ⟨.hbm, 421, rfl⟩
abbrev main_call29_v0 : Ref sig .tc := ⟨.hbm, 422, rfl⟩
abbrev main_call29_v1_0 : Ref sig .tc := ⟨.hbm, 423, rfl⟩
abbrev main_v216 : Ref sig .tc := ⟨.hbm, 424, rfl⟩
abbrev main_v217 : Ref sig .tc := ⟨.hbm, 425, rfl⟩
abbrev main_v218 : Ref sig .tc := ⟨.hbm, 426, rfl⟩
abbrev main_v219 : Ref sig .tc := ⟨.hbm, 427, rfl⟩
abbrev main_call30_c : Ref sig .tc := ⟨.hbm, 428, rfl⟩
abbrev main_call30_v0 : Ref sig .tc := ⟨.hbm, 429, rfl⟩
abbrev main_call30_v1 : Ref sig .tc := ⟨.hbm, 430, rfl⟩
abbrev main_call30_c_0 : Ref sig .tc := ⟨.hbm, 431, rfl⟩
abbrev main_call30_v2 : Ref sig .tc := ⟨.hbm, 432, rfl⟩
abbrev main_call30_v3 : Ref sig .tc := ⟨.hbm, 433, rfl⟩
abbrev main_call30_v4 : Ref sig .tc := ⟨.hbm, 434, rfl⟩
abbrev main_call30_v5 : Ref sig .tc := ⟨.hbm, 435, rfl⟩
abbrev main_call30_c_1 : Ref sig .tc := ⟨.hbm, 436, rfl⟩
abbrev main_call30_c_2 : Ref sig .tc := ⟨.hbm, 437, rfl⟩
abbrev main_call30_v6 : Ref sig .tc := ⟨.hbm, 438, rfl⟩
abbrev main_call30_v7 : Ref sig .tc := ⟨.hbm, 439, rfl⟩
abbrev main_call30_v8 : Ref sig .tc := ⟨.hbm, 440, rfl⟩
abbrev main_call30_v9 : Ref sig .tc := ⟨.hbm, 441, rfl⟩
abbrev main_call30_v10 : Ref sig .tc := ⟨.hbm, 442, rfl⟩
abbrev main_call30_v11 : Ref sig .tc := ⟨.hbm, 443, rfl⟩
abbrev main_call30_c_3 : Ref sig .tc := ⟨.hbm, 444, rfl⟩
abbrev main_call30_v12 : Ref sig .tc := ⟨.hbm, 445, rfl⟩
abbrev main_call30_v13 : Ref sig .tc := ⟨.hbm, 446, rfl⟩
abbrev main_call30_cst : Ref sig .tc := ⟨.hbm, 447, rfl⟩
abbrev main_call30_v14 : Ref sig .tc := ⟨.hbm, 448, rfl⟩
abbrev main_v220 : Ref sig .tc := ⟨.hbm, 449, rfl⟩
abbrev main_v221 : Ref sig .tc := ⟨.hbm, 450, rfl⟩
abbrev main_v222 : Ref sig .tc := ⟨.hbm, 451, rfl⟩
abbrev main_v223 : Ref sig .tc := ⟨.hbm, 452, rfl⟩
abbrev main_v224 : Ref sig .tc := ⟨.hbm, 453, rfl⟩
abbrev main_v225 : Ref sig .tc := ⟨.hbm, 454, rfl⟩
abbrev main_v226 : Ref sig .tc := ⟨.hbm, 455, rfl⟩
abbrev main_v227 : Ref sig .tc := ⟨.hbm, 456, rfl⟩
abbrev main_v228 : Ref sig .tc := ⟨.hbm, 457, rfl⟩
abbrev main_v229 : Ref sig .tc := ⟨.hbm, 458, rfl⟩
abbrev main_v230 : Ref sig .tc := ⟨.hbm, 459, rfl⟩
abbrev main_cst_60 : Ref sig .tc := ⟨.hbm, 460, rfl⟩
abbrev main_v231 : Ref sig .tc := ⟨.hbm, 461, rfl⟩
abbrev main_v232 : Ref sig .tc := ⟨.hbm, 462, rfl⟩
abbrev main_cst_61 : Ref sig .tc := ⟨.hbm, 463, rfl⟩
abbrev main_call31_v0 : Ref sig .tc := ⟨.hbm, 464, rfl⟩
abbrev main_call31_v1 : Ref sig .tc := ⟨.hbm, 465, rfl⟩
abbrev main_v233 : Ref sig .tc := ⟨.hbm, 466, rfl⟩
abbrev main_v234 : Ref sig .tc := ⟨.hbm, 467, rfl⟩
abbrev main_v235 : Ref sig .tc := ⟨.hbm, 468, rfl⟩
abbrev main_v236 : Ref sig .tc := ⟨.hbm, 469, rfl⟩
abbrev main_v237 : Ref sig .tc := ⟨.hbm, 470, rfl⟩
abbrev main_v238 : Ref sig .tc := ⟨.hbm, 471, rfl⟩
abbrev main_v239 : Ref sig .tc := ⟨.hbm, 472, rfl⟩
abbrev main_v240 : Ref sig .tc := ⟨.hbm, 473, rfl⟩
abbrev main_v241 : Ref sig .tc := ⟨.hbm, 474, rfl⟩
abbrev main_v242 : Ref sig .tc := ⟨.hbm, 475, rfl⟩
abbrev main_v243 : Ref sig .tc := ⟨.hbm, 476, rfl⟩
abbrev main_call32_c : Ref sig .tc := ⟨.hbm, 477, rfl⟩
abbrev main_call32_v0 : Ref sig .tc := ⟨.hbm, 478, rfl⟩
abbrev main_call32_v1 : Ref sig .tc := ⟨.hbm, 479, rfl⟩
abbrev main_call32_c_0 : Ref sig .tc := ⟨.hbm, 480, rfl⟩
abbrev main_call32_v2 : Ref sig .tc := ⟨.hbm, 481, rfl⟩
abbrev main_call32_v3 : Ref sig .tc := ⟨.hbm, 482, rfl⟩
abbrev main_call32_v4 : Ref sig .tc := ⟨.hbm, 483, rfl⟩
abbrev main_call32_v5 : Ref sig .tc := ⟨.hbm, 484, rfl⟩
abbrev main_call32_c_1 : Ref sig .tc := ⟨.hbm, 485, rfl⟩
abbrev main_call32_c_2 : Ref sig .tc := ⟨.hbm, 486, rfl⟩
abbrev main_call32_v6 : Ref sig .tc := ⟨.hbm, 487, rfl⟩
abbrev main_call32_v7 : Ref sig .tc := ⟨.hbm, 488, rfl⟩
abbrev main_call32_v8 : Ref sig .tc := ⟨.hbm, 489, rfl⟩
abbrev main_call32_v9 : Ref sig .tc := ⟨.hbm, 490, rfl⟩
abbrev main_call32_v10 : Ref sig .tc := ⟨.hbm, 491, rfl⟩
abbrev main_call32_v11 : Ref sig .tc := ⟨.hbm, 492, rfl⟩
abbrev main_call32_c_3 : Ref sig .tc := ⟨.hbm, 493, rfl⟩
abbrev main_call32_v12 : Ref sig .tc := ⟨.hbm, 494, rfl⟩
abbrev main_call32_v13 : Ref sig .tc := ⟨.hbm, 495, rfl⟩
abbrev main_call32_cst : Ref sig .tc := ⟨.hbm, 496, rfl⟩
abbrev main_call32_v14 : Ref sig .tc := ⟨.hbm, 497, rfl⟩
abbrev main_v244 : Ref sig .tc := ⟨.hbm, 498, rfl⟩
abbrev main_cst_62 : Ref sig .tc := ⟨.hbm, 499, rfl⟩
abbrev main_v245 : Ref sig .tc := ⟨.hbm, 500, rfl⟩
abbrev main_v246 : Ref sig .tc := ⟨.hbm, 501, rfl⟩
abbrev main_cst_63 : Ref sig .tc := ⟨.hbm, 502, rfl⟩
abbrev main_v247 : Ref sig .tc := ⟨.hbm, 503, rfl⟩
abbrev main_v248 : Ref sig .tc := ⟨.hbm, 504, rfl⟩
abbrev main_v249 : Ref sig .tc := ⟨.hbm, 505, rfl⟩
abbrev main_v250 : Ref sig .tc := ⟨.hbm, 506, rfl⟩
abbrev main_c_64 : Ref sig .tc := ⟨.hbm, 507, rfl⟩
abbrev main_v251 : Ref sig .tc := ⟨.hbm, 508, rfl⟩
abbrev main_v252 : Ref sig .tc := ⟨.hbm, 509, rfl⟩
abbrev main_v253 : Ref sig .tc := ⟨.hbm, 510, rfl⟩
abbrev main_cst_65 : Ref sig .tc := ⟨.hbm, 511, rfl⟩
abbrev main_v254 : Ref sig .tc := ⟨.hbm, 512, rfl⟩
abbrev main_v255 : Ref sig .tc := ⟨.hbm, 513, rfl⟩
abbrev main_cst_66 : Ref sig .tc := ⟨.hbm, 514, rfl⟩
abbrev main_v256 : Ref sig .tc := ⟨.hbm, 515, rfl⟩
abbrev main_v257 : Ref sig .tc := ⟨.hbm, 516, rfl⟩
abbrev main_v258 : Ref sig .tc := ⟨.hbm, 517, rfl⟩
abbrev main_cst_67 : Ref sig .tc := ⟨.hbm, 518, rfl⟩
abbrev main_v259 : Ref sig .tc := ⟨.hbm, 519, rfl⟩
abbrev main_v260 : Ref sig .tc := ⟨.hbm, 520, rfl⟩
abbrev main_v261 : Ref sig .tc := ⟨.hbm, 521, rfl⟩
abbrev main_v262 : Ref sig .tc := ⟨.hbm, 522, rfl⟩
abbrev main_v263 : Ref sig .tc := ⟨.hbm, 523, rfl⟩
abbrev main_cst_68 : Ref sig .tc := ⟨.hbm, 524, rfl⟩
abbrev main_v264 : Ref sig .tc := ⟨.hbm, 525, rfl⟩
abbrev main_v265 : Ref sig .tc := ⟨.hbm, 526, rfl⟩
abbrev main_cst_69 : Ref sig .tc := ⟨.hbm, 527, rfl⟩
abbrev main_v266 : Ref sig .tc := ⟨.hbm, 528, rfl⟩
abbrev main_v267 : Ref sig .tc := ⟨.hbm, 529, rfl⟩
abbrev main_v268 : Ref sig .tc := ⟨.hbm, 530, rfl⟩
abbrev main_cst_70 : Ref sig .tc := ⟨.hbm, 531, rfl⟩
abbrev main_v269 : Ref sig .tc := ⟨.hbm, 532, rfl⟩
abbrev main_v270 : Ref sig .tc := ⟨.hbm, 533, rfl⟩
abbrev main_cst_71 : Ref sig .tc := ⟨.hbm, 534, rfl⟩
abbrev main_call34_v0 : Ref sig .tc := ⟨.hbm, 535, rfl⟩
abbrev main_call34_v1 : Ref sig .tc := ⟨.hbm, 536, rfl⟩
abbrev main_v271 : Ref sig .tc := ⟨.hbm, 537, rfl⟩
abbrev main_cst_72 : Ref sig .tc := ⟨.hbm, 538, rfl⟩
abbrev main_v272 : Ref sig .tc := ⟨.hbm, 539, rfl⟩
abbrev main_v273 : Ref sig .tc := ⟨.hbm, 540, rfl⟩
abbrev main_c_73 : Ref sig .tc := ⟨.hbm, 541, rfl⟩
abbrev main_v274 : Ref sig .tc := ⟨.hbm, 542, rfl⟩
abbrev main_v275 : Ref sig .tc := ⟨.hbm, 543, rfl⟩
abbrev main_cst_74 : Ref sig .tc := ⟨.hbm, 544, rfl⟩
abbrev main_v276 : Ref sig .tc := ⟨.hbm, 545, rfl⟩
abbrev main_v277 : Ref sig .tc := ⟨.hbm, 546, rfl⟩
abbrev main_v278 : Ref sig .tc := ⟨.hbm, 547, rfl⟩
abbrev main_cst_75 : Ref sig .tc := ⟨.hbm, 548, rfl⟩
abbrev main_call35_v0 : Ref sig .tc := ⟨.hbm, 549, rfl⟩
abbrev main_call35_v1 : Ref sig .tc := ⟨.hbm, 550, rfl⟩
abbrev main_v279 : Ref sig .tc := ⟨.hbm, 551, rfl⟩
abbrev main_cst_76 : Ref sig .tc := ⟨.hbm, 552, rfl⟩
abbrev main_v280 : Ref sig .tc := ⟨.hbm, 553, rfl⟩
abbrev main_v281 : Ref sig .tc := ⟨.hbm, 554, rfl⟩
abbrev main_cst_77 : Ref sig .tc := ⟨.hbm, 555, rfl⟩
abbrev main_v282 : Ref sig .tc := ⟨.hbm, 556, rfl⟩
abbrev main_v283 : Ref sig .tc := ⟨.hbm, 557, rfl⟩
abbrev main_v284 : Ref sig .tc := ⟨.hbm, 558, rfl⟩
abbrev main_v285 : Ref sig .tc := ⟨.hbm, 559, rfl⟩
abbrev main_v286 : Ref sig .tc := ⟨.hbm, 560, rfl⟩
abbrev main_v287 : Ref sig .tc := ⟨.hbm, 561, rfl⟩
abbrev main_v288 : Ref sig .tc := ⟨.hbm, 562, rfl⟩
abbrev main_v289 : Ref sig .tc := ⟨.hbm, 563, rfl⟩
abbrev main_v290 : Ref sig .tc := ⟨.hbm, 564, rfl⟩
abbrev main_v291 : Ref sig .tc := ⟨.hbm, 565, rfl⟩
abbrev main_cst_78 : Ref sig .tc := ⟨.hbm, 566, rfl⟩
abbrev main_v292 : Ref sig .tc := ⟨.hbm, 567, rfl⟩
abbrev main_v293 : Ref sig .tc := ⟨.hbm, 568, rfl⟩
abbrev main_v294 : Ref sig .tc := ⟨.hbm, 569, rfl⟩
abbrev main_v295 : Ref sig .tc := ⟨.hbm, 570, rfl⟩
abbrev main_c_79 : Ref sig .tc := ⟨.hbm, 571, rfl⟩
abbrev main_call36_v0 : Ref sig .tc := ⟨.hbm, 572, rfl⟩
abbrev main_call36_v1 : Ref sig .tc := ⟨.hbm, 573, rfl⟩
abbrev main_v296 : Ref sig .tc := ⟨.hbm, 574, rfl⟩
abbrev main_v297 : Ref sig .tc := ⟨.hbm, 575, rfl⟩
abbrev main_v298 : Ref sig .tc := ⟨.hbm, 576, rfl⟩
abbrev main_call37_c : Ref sig .tc := ⟨.hbm, 577, rfl⟩
abbrev main_call37_v0 : Ref sig .tc := ⟨.hbm, 578, rfl⟩
abbrev main_call37_v1 : Ref sig .tc := ⟨.hbm, 579, rfl⟩
abbrev main_call37_c_0 : Ref sig .tc := ⟨.hbm, 580, rfl⟩
abbrev main_call37_v2 : Ref sig .tc := ⟨.hbm, 581, rfl⟩
abbrev main_call37_v3 : Ref sig .tc := ⟨.hbm, 582, rfl⟩
abbrev main_call37_v4 : Ref sig .tc := ⟨.hbm, 583, rfl⟩
abbrev main_call37_v5 : Ref sig .tc := ⟨.hbm, 584, rfl⟩
abbrev main_call37_c_1 : Ref sig .tc := ⟨.hbm, 585, rfl⟩
abbrev main_call37_c_2 : Ref sig .tc := ⟨.hbm, 586, rfl⟩
abbrev main_call37_v6 : Ref sig .tc := ⟨.hbm, 587, rfl⟩
abbrev main_call37_v7 : Ref sig .tc := ⟨.hbm, 588, rfl⟩
abbrev main_call37_v8 : Ref sig .tc := ⟨.hbm, 589, rfl⟩
abbrev main_call37_v9 : Ref sig .tc := ⟨.hbm, 590, rfl⟩
abbrev main_call37_v10 : Ref sig .tc := ⟨.hbm, 591, rfl⟩
abbrev main_call37_v11 : Ref sig .tc := ⟨.hbm, 592, rfl⟩
abbrev main_call37_c_3 : Ref sig .tc := ⟨.hbm, 593, rfl⟩
abbrev main_call37_v12 : Ref sig .tc := ⟨.hbm, 594, rfl⟩
abbrev main_call37_v13 : Ref sig .tc := ⟨.hbm, 595, rfl⟩
abbrev main_call37_c_4 : Ref sig .tc := ⟨.hbm, 596, rfl⟩
abbrev main_call37_v14 : Ref sig .tc := ⟨.hbm, 597, rfl⟩
abbrev main_v299 : Ref sig .tc := ⟨.hbm, 598, rfl⟩
abbrev main_v300 : Ref sig .tc := ⟨.hbm, 599, rfl⟩
abbrev main_cst_80 : Ref sig .tc := ⟨.hbm, 600, rfl⟩
abbrev main_v301 : Ref sig .tc := ⟨.hbm, 601, rfl⟩
abbrev main_v302 : Ref sig .tc := ⟨.hbm, 602, rfl⟩
abbrev main_cst_81 : Ref sig .tc := ⟨.hbm, 603, rfl⟩
abbrev main_cst_82 : Ref sig .tc := ⟨.hbm, 604, rfl⟩
abbrev main_call38_v0 : Ref sig .tc := ⟨.hbm, 605, rfl⟩
abbrev main_call38_v1 : Ref sig .tc := ⟨.hbm, 606, rfl⟩
abbrev main_v303 : Ref sig .tc := ⟨.hbm, 607, rfl⟩
abbrev main_v304 : Ref sig .tc := ⟨.hbm, 608, rfl⟩
abbrev main_v305 : Ref sig .tc := ⟨.hbm, 609, rfl⟩
abbrev main_v306 : Ref sig .tc := ⟨.hbm, 610, rfl⟩
abbrev main_v307 : Ref sig .tc := ⟨.hbm, 611, rfl⟩
abbrev main_v308 : Ref sig .tc := ⟨.hbm, 612, rfl⟩
abbrev main_v309 : Ref sig .tc := ⟨.hbm, 613, rfl⟩
abbrev main_v310 : Ref sig .tc := ⟨.hbm, 614, rfl⟩
abbrev main_v311 : Ref sig .tc := ⟨.hbm, 615, rfl⟩
abbrev main_v312 : Ref sig .tc := ⟨.hbm, 616, rfl⟩
abbrev main_v313 : Ref sig .tc := ⟨.hbm, 617, rfl⟩
abbrev main_v314 : Ref sig .tc := ⟨.hbm, 618, rfl⟩
abbrev main_v315 : Ref sig .tc := ⟨.hbm, 619, rfl⟩
abbrev main_c_83 : Ref sig .tc := ⟨.hbm, 620, rfl⟩
abbrev main_v316 : Ref sig .tc := ⟨.hbm, 621, rfl⟩
abbrev main_v317 : Ref sig .tc := ⟨.hbm, 622, rfl⟩
abbrev main_v318 : Ref sig .tc := ⟨.hbm, 623, rfl⟩
abbrev main_v319 : Ref sig .tc := ⟨.hbm, 624, rfl⟩
abbrev main_c_84 : Ref sig .tc := ⟨.hbm, 625, rfl⟩
abbrev main_v320 : Ref sig .tc := ⟨.hbm, 626, rfl⟩
abbrev main_v321 : Ref sig .tc := ⟨.hbm, 627, rfl⟩
abbrev main_c_85 : Ref sig .tc := ⟨.hbm, 628, rfl⟩
abbrev main_v322 : Ref sig .tc := ⟨.hbm, 629, rfl⟩
abbrev main_v323 : Ref sig .tc := ⟨.hbm, 630, rfl⟩
abbrev main_cst_86 : Ref sig .tc := ⟨.hbm, 631, rfl⟩
abbrev main_v324 : Ref sig .tc := ⟨.hbm, 632, rfl⟩
abbrev main_v325 : Ref sig .tc := ⟨.hbm, 633, rfl⟩
abbrev main_v326 : Ref sig .tc := ⟨.hbm, 634, rfl⟩
abbrev main_v327 : Ref sig .tc := ⟨.hbm, 635, rfl⟩
abbrev main_v328 : Ref sig .tc := ⟨.hbm, 636, rfl⟩
abbrev main_v329 : Ref sig .tc := ⟨.hbm, 637, rfl⟩
abbrev main_v330 : Ref sig .tc := ⟨.hbm, 638, rfl⟩
abbrev main_v331 : Ref sig .tc := ⟨.hbm, 639, rfl⟩
abbrev main_cst_87 : Ref sig .tc := ⟨.hbm, 640, rfl⟩
abbrev main_v332 : Ref sig .tc := ⟨.hbm, 641, rfl⟩
abbrev main_c_88 : Ref sig .tc := ⟨.hbm, 642, rfl⟩
abbrev main_v333 : Ref sig .tc := ⟨.hbm, 643, rfl⟩
abbrev main_v334 : Ref sig .tc := ⟨.hbm, 644, rfl⟩
abbrev main_c_89 : Ref sig .tc := ⟨.hbm, 645, rfl⟩
abbrev main_v335 : Ref sig .tc := ⟨.hbm, 646, rfl⟩
abbrev main_v336 : Ref sig .tc := ⟨.hbm, 647, rfl⟩
abbrev main_v337 : Ref sig .tc := ⟨.hbm, 648, rfl⟩
abbrev main_c_90 : Ref sig .tc := ⟨.hbm, 649, rfl⟩
abbrev main_v338 : Ref sig .tc := ⟨.hbm, 650, rfl⟩
abbrev main_v339 : Ref sig .tc := ⟨.hbm, 651, rfl⟩
abbrev main_c_91 : Ref sig .tc := ⟨.hbm, 652, rfl⟩
abbrev main_v340 : Ref sig .tc := ⟨.hbm, 653, rfl⟩
abbrev main_v341 : Ref sig .tc := ⟨.hbm, 654, rfl⟩
abbrev main_v342 : Ref sig .tc := ⟨.hbm, 655, rfl⟩
abbrev main_v343 : Ref sig .tc := ⟨.hbm, 656, rfl⟩
abbrev main_v344 : Ref sig .tc := ⟨.hbm, 657, rfl⟩
abbrev main_v345 : Ref sig .tc := ⟨.hbm, 658, rfl⟩
abbrev main_v346 : Ref sig .tc := ⟨.hbm, 659, rfl⟩
abbrev main_v347 : Ref sig .tc := ⟨.hbm, 660, rfl⟩
abbrev main_c_92 : Ref sig .tc := ⟨.hbm, 661, rfl⟩
abbrev main_v348 : Ref sig .tc := ⟨.hbm, 662, rfl⟩
abbrev main_v349 : Ref sig .tc := ⟨.hbm, 663, rfl⟩
abbrev main_c_93 : Ref sig .tc := ⟨.hbm, 664, rfl⟩
abbrev main_v350 : Ref sig .tc := ⟨.hbm, 665, rfl⟩
abbrev main_v351 : Ref sig .tc := ⟨.hbm, 666, rfl⟩
abbrev main_v352 : Ref sig .tc := ⟨.hbm, 667, rfl⟩
abbrev main_c_94 : Ref sig .tc := ⟨.hbm, 668, rfl⟩
abbrev main_v353 : Ref sig .tc := ⟨.hbm, 669, rfl⟩
abbrev main_v354 : Ref sig .tc := ⟨.hbm, 670, rfl⟩
abbrev main_c_95 : Ref sig .tc := ⟨.hbm, 671, rfl⟩
abbrev main_v355 : Ref sig .tc := ⟨.hbm, 672, rfl⟩
abbrev main_v356 : Ref sig .tc := ⟨.hbm, 673, rfl⟩
abbrev main_v357 : Ref sig .tc := ⟨.hbm, 674, rfl⟩
abbrev main_v358 : Ref sig .tc := ⟨.hbm, 675, rfl⟩
abbrev main_v359 : Ref sig .tc := ⟨.hbm, 676, rfl⟩
abbrev main_v360 : Ref sig .tc := ⟨.hbm, 677, rfl⟩
abbrev main_v361 : Ref sig .tc := ⟨.hbm, 678, rfl⟩
abbrev main_v362 : Ref sig .tc := ⟨.hbm, 679, rfl⟩
abbrev main_cst_96 : Ref sig .tc := ⟨.hbm, 680, rfl⟩
abbrev main_v363 : Ref sig .tc := ⟨.hbm, 681, rfl⟩
abbrev main_v364 : Ref sig .tc := ⟨.hbm, 682, rfl⟩
abbrev main_cst_97 : Ref sig .tc := ⟨.hbm, 683, rfl⟩
abbrev main_call39_v0 : Ref sig .tc := ⟨.hbm, 684, rfl⟩
abbrev main_call39_v1 : Ref sig .tc := ⟨.hbm, 685, rfl⟩
abbrev main_v365 : Ref sig .tc := ⟨.hbm, 686, rfl⟩
abbrev main_v366 : Ref sig .tc := ⟨.hbm, 687, rfl⟩
abbrev main_v367 : Ref sig .tc := ⟨.hbm, 688, rfl⟩
abbrev main_cst_98 : Ref sig .tc := ⟨.hbm, 689, rfl⟩
abbrev main_v368 : Ref sig .tc := ⟨.hbm, 690, rfl⟩
abbrev main_v369 : Ref sig .tc := ⟨.hbm, 691, rfl⟩
abbrev main_cst_99 : Ref sig .tc := ⟨.hbm, 692, rfl⟩
abbrev main_call40_v0 : Ref sig .tc := ⟨.hbm, 693, rfl⟩
abbrev main_call40_v1 : Ref sig .tc := ⟨.hbm, 694, rfl⟩
abbrev main_v370 : Ref sig .tc := ⟨.hbm, 695, rfl⟩
abbrev main_v371 : Ref sig .tc := ⟨.hbm, 696, rfl⟩
abbrev main_v372 : Ref sig .tc := ⟨.hbm, 697, rfl⟩
abbrev main_cst_100 : Ref sig .tc := ⟨.hbm, 698, rfl⟩
abbrev main_call41_v0 : Ref sig .tc := ⟨.hbm, 699, rfl⟩
abbrev main_call41_v1 : Ref sig .tc := ⟨.hbm, 700, rfl⟩
abbrev main_v373 : Ref sig .tc := ⟨.hbm, 701, rfl⟩
abbrev main_cst_101 : Ref sig .tc := ⟨.hbm, 702, rfl⟩
abbrev main_v374 : Ref sig .tc := ⟨.hbm, 703, rfl⟩
abbrev main_v375 : Ref sig .tc := ⟨.hbm, 704, rfl⟩
abbrev main_cst_102 : Ref sig .tc := ⟨.hbm, 705, rfl⟩
abbrev main_v376 : Ref sig .tc := ⟨.hbm, 706, rfl⟩
abbrev main_cst_103 : Ref sig .tc := ⟨.hbm, 707, rfl⟩
abbrev main_v377 : Ref sig .tc := ⟨.hbm, 708, rfl⟩
abbrev main_v378 : Ref sig .tc := ⟨.hbm, 709, rfl⟩
abbrev main_v379 : Ref sig .tc := ⟨.hbm, 710, rfl⟩
abbrev main_c_104 : Ref sig .tc := ⟨.hbm, 711, rfl⟩
abbrev main_v380 : Ref sig .tc := ⟨.hbm, 712, rfl⟩
abbrev main_v381 : Ref sig .tc := ⟨.hbm, 713, rfl⟩
abbrev main_cst_105 : Ref sig .tc := ⟨.hbm, 714, rfl⟩
abbrev main_v382 : Ref sig .tc := ⟨.hbm, 715, rfl⟩
abbrev main_v383 : Ref sig .tc := ⟨.hbm, 716, rfl⟩
abbrev main_v384 : Ref sig .tc := ⟨.hbm, 717, rfl⟩
abbrev main_cst_106 : Ref sig .tc := ⟨.hbm, 718, rfl⟩
abbrev main_v385 : Ref sig .tc := ⟨.hbm, 719, rfl⟩
abbrev main_v386 : Ref sig .tc := ⟨.hbm, 720, rfl⟩
abbrev main_cst_107 : Ref sig .tc := ⟨.hbm, 721, rfl⟩
abbrev main_v387 : Ref sig .tc := ⟨.hbm, 722, rfl⟩
abbrev main_v388 : Ref sig .tc := ⟨.hbm, 723, rfl⟩
abbrev main_cst_108 : Ref sig .tc := ⟨.hbm, 724, rfl⟩
abbrev main_v389 : Ref sig .tc := ⟨.hbm, 725, rfl⟩
abbrev main_v390 : Ref sig .tc := ⟨.hbm, 726, rfl⟩
abbrev main_v391 : Ref sig .tc := ⟨.hbm, 727, rfl⟩
abbrev main_v392 : Ref sig .tc := ⟨.hbm, 728, rfl⟩
abbrev main_v393 : Ref sig .tc := ⟨.hbm, 729, rfl⟩
abbrev main_cst_109 : Ref sig .tc := ⟨.hbm, 730, rfl⟩
abbrev main_v394 : Ref sig .tc := ⟨.hbm, 731, rfl⟩
abbrev main_v395 : Ref sig .tc := ⟨.hbm, 732, rfl⟩
abbrev main_cst_110 : Ref sig .tc := ⟨.hbm, 733, rfl⟩
abbrev main_v396 : Ref sig .tc := ⟨.hbm, 734, rfl⟩
abbrev main_v397 : Ref sig .tc := ⟨.hbm, 735, rfl⟩
abbrev main_v398 : Ref sig .tc := ⟨.hbm, 736, rfl⟩
abbrev main_cst_111 : Ref sig .tc := ⟨.hbm, 737, rfl⟩
abbrev main_v399 : Ref sig .tc := ⟨.hbm, 738, rfl⟩
abbrev main_v400 : Ref sig .tc := ⟨.hbm, 739, rfl⟩
abbrev main_v401 : Ref sig .tc := ⟨.hbm, 740, rfl⟩
abbrev main_v402 : Ref sig .tc := ⟨.hbm, 741, rfl⟩
abbrev main_v403 : Ref sig .tc := ⟨.hbm, 742, rfl⟩
abbrev main_cst_112 : Ref sig .tc := ⟨.hbm, 743, rfl⟩
abbrev main_v404 : Ref sig .tc := ⟨.hbm, 744, rfl⟩
abbrev main_v405 : Ref sig .tc := ⟨.hbm, 745, rfl⟩
abbrev main_c_113 : Ref sig .tc := ⟨.hbm, 746, rfl⟩
abbrev main_v406 : Ref sig .tc := ⟨.hbm, 747, rfl⟩
abbrev main_c_114 : Ref sig .tc := ⟨.hbm, 748, rfl⟩
abbrev main_v407 : Ref sig .tc := ⟨.hbm, 749, rfl⟩
abbrev main_v408 : Ref sig .tc := ⟨.hbm, 750, rfl⟩
abbrev main_v409 : Ref sig .tc := ⟨.hbm, 751, rfl⟩
abbrev main_cst_115 : Ref sig .tc := ⟨.hbm, 752, rfl⟩
abbrev main_v410 : Ref sig .tc := ⟨.hbm, 753, rfl⟩
abbrev main_v411 : Ref sig .tc := ⟨.hbm, 754, rfl⟩
abbrev main_cst_116 : Ref sig .tc := ⟨.hbm, 755, rfl⟩
abbrev main_v412 : Ref sig .tc := ⟨.hbm, 756, rfl⟩
abbrev main_v413 : Ref sig .tc := ⟨.hbm, 757, rfl⟩
abbrev main_v414 : Ref sig .tc := ⟨.hbm, 758, rfl⟩
abbrev main_v415 : Ref sig .tc := ⟨.hbm, 759, rfl⟩
abbrev main_v416 : Ref sig .tc := ⟨.hbm, 760, rfl⟩
abbrev main_v417 : Ref sig .tc := ⟨.hbm, 761, rfl⟩
abbrev main_v418 : Ref sig .tc := ⟨.hbm, 762, rfl⟩
abbrev main_cst_117 : Ref sig .tc := ⟨.hbm, 763, rfl⟩
abbrev main_v419 : Ref sig .tc := ⟨.hbm, 764, rfl⟩
abbrev main_v420 : Ref sig .tc := ⟨.hbm, 765, rfl⟩
abbrev main_c_118 : Ref sig .tc := ⟨.hbm, 766, rfl⟩
abbrev main_v421 : Ref sig .tc := ⟨.hbm, 767, rfl⟩
abbrev main_c_119 : Ref sig .tc := ⟨.hbm, 768, rfl⟩
abbrev main_v422 : Ref sig .tc := ⟨.hbm, 769, rfl⟩
abbrev main_v423 : Ref sig .tc := ⟨.hbm, 770, rfl⟩
abbrev main_v424 : Ref sig .tc := ⟨.hbm, 771, rfl⟩
abbrev main_v425 : Ref sig .tc := ⟨.hbm, 772, rfl⟩
abbrev main_v426 : Ref sig .tc := ⟨.hbm, 773, rfl⟩
abbrev main_v427 : Ref sig .tc := ⟨.hbm, 774, rfl⟩
abbrev main_v428 : Ref sig .tc := ⟨.hbm, 775, rfl⟩
abbrev main_v429 : Ref sig .tc := ⟨.hbm, 776, rfl⟩
abbrev main_v430 : Ref sig .tc := ⟨.hbm, 777, rfl⟩

abbrev nD : Nat := 1
abbrev τ : Topo := Topo.v7x

variable {F : FTy → Type} [FloatOps F]
-- ==== Proof.KBlock.lean ====
/-
  What one grid point leaves in the accumulator: the accumulator's former contents plus the vector of the point's eight
  partial sums, and the array the run ends with as the sum over the points.
-/
module

public import proofs.«01_k».proof.Proof.Gen.KernelIdeal.Run
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KBlock

open Cert.KernelIdeal Cert.KernelIdeal.Gen

variable {F : FTy → Type} [FloatOps F]

/-- The 80 × 64 table of cell sums of one block. -/
def agg (x4 : Vec F S1x64x512 .f32) (x5 x6 x7 x8 : Vec F S1x64x512 .i32) : FVec F S80x64 .f32 :=
  k0_pay15 (k0_pay12 (k0_pay2 x5 x4) (k0_pay3 x5 x4) (k0_pay9 (k0_pay3 x5 x4) x7 x6) (k0_pay10 x8) (k0_pay11 (k0_pay3 x5 x4) x8))
    (iota .tc S512x64 32 [0] iota_S512x64_d0_w32) 8#32 k0_pay13 k0_pay14

/-- The block's accumulator update: `xo` and the block's eight partial sums in lanes 0 to 7. -/
def step (x0 : Vec F S512x40 .f32) (x1 : Vec F S1x512x8 .f32) (x2 x3 x4 : Vec F S1x64x512 .f32)
    (x5 x6 x7 x8 : Vec F S1x64x512 .i32) (xo : Vec F S1x128 .f32) : Vec F S1x128 .f32 :=
  k0_pay41 (k0_pay7 (k0_pay6 x5 x4 x3)) (k0_pay8 (k0_pay2 x5 x4) (k0_pay4 x5 x4) x2)
    (k0_pay31 (agg x4 x5 x6 x7 x8) (k0_pay16 x1)
      (k0_pay22 (agg x4 x5 x6 x7 x8) (k0_pay16 x1) k0_pay17
        (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14)
        (k0_pay20 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14 x1))
      (k0_pay23 (agg x4 x5 x6 x7 x8) k0_pay18
        (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14))
      (k0_pay24 (agg x4 x5 x6 x7 x8)) (k0_pay25 (agg x4 x5 x6 x7 x8) (k0_pay16 x1)) (k0_pay26 (agg x4 x5 x6 x7 x8)) k0_pay27)
    (k0_pay32 (agg x4 x5 x6 x7 x8) (k0_pay16 x1)
      (k0_pay22 (agg x4 x5 x6 x7 x8) (k0_pay16 x1) k0_pay17
        (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14)
        (k0_pay20 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14 x1))
      (k0_pay23 (agg x4 x5 x6 x7 x8) k0_pay18
        (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14))
      (k0_pay24 (agg x4 x5 x6 x7 x8)) (k0_pay25 (agg x4 x5 x6 x7 x8) (k0_pay16 x1)) (k0_pay26 (agg x4 x5 x6 x7 x8)) k0_pay27)
    (k0_pay34 (k0_pay33 (agg x4 x5 x6 x7 x8)
      (k0_pay23 (agg x4 x5 x6 x7 x8) k0_pay18
        (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14))
      (k0_pay24 (agg x4 x5 x6 x7 x8))))
    (k0_pay37 (agg x4 x5 x6 x7 x8) x0) (k0_pay38 (agg x4 x5 x6 x7 x8))
    (iota .tc S1x128 32 [1] iota_S1x128_d1_w32) (k0_pay39 (k0_pay5 x5 x4)) k0_pay40 xo

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

set_option maxHeartbeats 4000000 in
/-- A point other than the first leaves `step` of its blocks over the former accumulator. -/
theorem out_B (c : Dev nD) (i : grid0.Coords) (a2 : Memref sig .tc .vmem S512x40 .f32) (h2 : a2.IsWhole)
    (a3 : Memref sig .tc .vmem S1x512x8 .f32) (h3 : a3.IsWhole) (a4 : Memref sig .tc .vmem S1x64x512 .f32) (h4 : a4.IsWhole)
    (a5 : Memref sig .tc .vmem S1x64x512 .f32) (h5 : a5.IsWhole) (a6 : Memref sig .tc .vmem S1x64x512 .f32) (h6 : a6.IsWhole)
    (a7 : Memref sig .tc .vmem S1x64x512 .i32) (h7 : a7.IsWhole) (a8 : Memref sig .tc .vmem S1x64x512 .i32) (h8 : a8.IsWhole)
    (a9 : Memref sig .tc .vmem S1x64x512 .i32) (h9 : a9.IsWhole) (a10 : Memref sig .tc .vmem S1x64x512 .i32) (h10 : a10.IsWhole)
    (a11 : Memref sig .tc .vmem S1x128 .f32) (h11 : a11.IsWhole) (hc : ¬cond0_0 i)
    (x0 : Vec F S512x40 .f32) (x1 : Vec F S1x512x8 .f32) (x2 x3 x4 : Vec F S1x64x512 .f32)
    (x5 x6 x7 x8 : Vec F S1x64x512 .i32) (xo : Vec F S1x128 .f32) :
    out0_B_9 c i a2 h2 a3 h3 a4 h4 a5 h5 a6 h6 a7 h7 a8 h8 a9 h9 a10 h10 a11 h11 hc x0 x1 x2 x3 x4 x5 x6 x7 x8 xo
      = step x0 x1 x2 x3 x4 x5 x6 x7 x8 xo := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 x6 x7 x8 xo)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread,
    View.ld_unit_zero (S := S512x40) hz2, View.ld_unit_zero (S := S1x512x8) hz3, View.ld_unit_zero (S := S1x64x512) hz3, View.ld_unit_zero (S := S1x128) hz2]
  rfl

set_option maxHeartbeats 4000000 in
/-- The first point leaves `step` of its blocks over the zero vector. -/
theorem out_A (c : Dev nD) (i : grid0.Coords) (a2 : Memref sig .tc .vmem S512x40 .f32) (h2 : a2.IsWhole)
    (a3 : Memref sig .tc .vmem S1x512x8 .f32) (h3 : a3.IsWhole) (a4 : Memref sig .tc .vmem S1x64x512 .f32) (h4 : a4.IsWhole)
    (a5 : Memref sig .tc .vmem S1x64x512 .f32) (h5 : a5.IsWhole) (a6 : Memref sig .tc .vmem S1x64x512 .f32) (h6 : a6.IsWhole)
    (a7 : Memref sig .tc .vmem S1x64x512 .i32) (h7 : a7.IsWhole) (a8 : Memref sig .tc .vmem S1x64x512 .i32) (h8 : a8.IsWhole)
    (a9 : Memref sig .tc .vmem S1x64x512 .i32) (h9 : a9.IsWhole) (a10 : Memref sig .tc .vmem S1x64x512 .i32) (h10 : a10.IsWhole)
    (a11 : Memref sig .tc .vmem S1x128 .f32) (h11 : a11.IsWhole) (hc : cond0_0 i)
    (x0 : Vec F S512x40 .f32) (x1 : Vec F S1x512x8 .f32) (x2 x3 x4 : Vec F S1x64x512 .f32)
    (x5 x6 x7 x8 : Vec F S1x64x512 .i32) :
    out0_A_9 c i a2 h2 a3 h3 a4 h4 a5 h5 a6 h6 a7 h7 a8 h8 a9 h9 a10 h10 a11 h11 hc x0 x1 x2 x3 x4 x5 x6 x7 x8
      = step x0 x1 x2 x3 x4 x5 x6 x7 x8 k0_pay1 := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x128) hz2, View.readCov_unit_zero (S := S1x128) _ hz2]
  simp only [View.readAt_eq_ld, h2.read_unread, h3.read_unread, h4.read_unread, h5.read_unread, h6.read_unread, h7.read_unread, h8.read_unread, h9.read_unread, h10.read_unread, h11.read_unread,
    View.ld_unit_zero (S := S512x40) hz2, View.ld_unit_zero (S := S1x512x8) hz3, View.ld_unit_zero (S := S1x64x512) hz3, View.ld_unit_zero (S := S1x128) hz2]
  rfl

end Cert.KBlock

end
-- ==== Proof.Spec.lean ====
/-
  The quantities both programs compute, written on the argument arrays read as functions: the masked target, the
  pixels of a cell, the four label averages of a cell, its matching error, its log-likelihood term, and the eight
  totals the five results are quotients of.
-/
module

public import Idealize.ShloMosaic.Lib.Pointwise
public import Idealize.ShloMosaic.Lib.IdealHost

@[expose] public section

noncomputable section

open Idealize.ShloMosaic
open scoped BigOperators

namespace Cert.Spec

/-- Indices of an image array. -/
abbrev Img : Type := (⟨3, ![8, 512, 512]⟩ : Shape).Idx

/-- The masked target: the target disparity where it is valid, 0 elsewhere. -/
def G (tgt : Img → EReal) (valid : Img → BitVec 1) (i : Img) : EReal := if valid i = 1#1 then tgt i else 0

/-- Position `p` (row `p / 8`, column `p % 8`) of the 8 × 8 cell `n`. -/
def px (n : Fin 32768) (p : Fin 64) : Img :=
  ix3 ⟨n.val / 4096, by omega⟩ ⟨8 * (n.val / 64 % 64) + p.val / 8, by omega⟩ ⟨8 * (n.val % 64) + p.val % 8, by omega⟩

/-- The smooth L1 function. -/
def sl1 (x : EReal) : EReal :=
  if x < 1 then Ideal.ofBits .f32 0x3F000000#32 * x * x else x - Ideal.ofBits .f32 0x3F000000#32

/-- The absolute value as both programs take it. -/
abbrev av (x : EReal) : EReal := max x (-x)

/-- 0 or 1 by a proposition. -/
def ind (p : Prop) [Decidable p] : EReal := if p then 1 else 0

section Cell

variable (g : Fin 64 → EReal) (lb : Fin 64 → BitVec 32) (pr : Fin 8 → EReal)

/-- How many positive targets of a cell carry label `k`. -/
def cN (k : BitVec 32) : ℕ := (Finset.univ.filter fun p => lb p = k ∧ 0 < g p).card

/-- The sum of the positive targets of label `k`. -/
def sm (k : BitVec 32) : EReal := ∑ p, if lb p = k ∧ 0 < g p then g p else 0

/-- The average of the positive targets of label `k`, 0 where there is none. -/
def tm (k : BitVec 32) : EReal := if 0 < cN g lb k then Ideal.div (sm g lb k) (max (cN g lb k : EReal) 1) else 0

/-- The distance of a value to the nearest proposal (a proposal is an eighth of a disparity). -/
def dist (x : EReal) : EReal :=
  (Finset.univ : Finset (Fin 8)).fold min (Ideal.ofBits .f32 0x7F800000#32) fun q => av (x - pr q * Ideal.ofBits .f32 0x41000000#32)

/-- One million, the distance of a label without targets. -/
abbrev big : EReal := Ideal.ofBits .f32 0x49742400#32

/-- The distance of label `k`. -/
def dk (k : BitVec 32) : EReal := if 0 < cN g lb k then dist pr (tm g lb k) else big

/-- The matching error of a cell: the least distance of its labels. -/
def err : EReal := min (min (min (min big (dk g lb pr 0#32)) (dk g lb pr 1#32)) (dk g lb pr 2#32)) (dk g lb pr 3#32)

/-- Whether the cell has a positive target of one of the four labels. -/
def exs : EReal := ind (0 < cN g lb 0#32 + cN g lb 1#32 + cN g lb 2#32 + cN g lb 3#32)

end Cell

section Init

variable (v : Fin 64 → Bool) (g : Fin 64 → EReal)

/-- The number of a cell's positions that take part in the initial loss. -/
def nv : ℕ := (Finset.univ.filter fun p => v p = true).card

/-- The sum of the targets at those positions. -/
def sv : EReal := ∑ p, if v p = true then g p else 0

/-- Whether there is such a position. -/
def has : EReal := ind (0 < nv v)

/-- A cell's term of the initial loss: minus the log-likelihood of the two nearest bins, weighted and normalised. -/
def lp (q0 q1 : EReal) : EReal :=
  Ideal.div ((0 - has v)
      * (Ideal.log (max q0 (Ideal.ofBits .f32 0x358637BD#32)) * ((nv v : EReal) - sv v g * Ideal.ofBits .f32 0x3E000000#32)
        + Ideal.log (max q1 (Ideal.ofBits .f32 0x358637BD#32)) * (sv v g * Ideal.ofBits .f32 0x3E000000#32)))
    (max (nv v : EReal) (Ideal.ofBits .f32 0x3A83126F#32))

end Init

section Totals

variable (prob : (⟨2, ![32768, 40]⟩ : Shape).Idx → EReal) (prop : (⟨3, ![8, 4096, 8]⟩ : Shape).Idx → EReal)
  (disp dpred tgt : Img → EReal) (valid occ occ2 : Img → BitVec 1) (label : Img → BitVec 32)

/-- Whether pixel `(b, h, w)` takes part in the initial loss: a positive target, not occluded, not in the first
    column, and its left neighbour not occluded in the other view. -/
def vi (i : Img) : Bool :=
  decide (0 < G tgt valid i ∧ occ i = 0#1 ∧ 1 ≤ (i 2).val ∧ occ2 (ix3 (i 0) (i 1) ⟨(i 2).val - 1, by have h : (i 2).val < 512 := (i 2).isLt; omega⟩) = 0#1)

/-- The targets of cell `n`. -/
abbrev gc (n : Fin 32768) (p : Fin 64) : EReal := G tgt valid (px n p)
/-- The labels of cell `n`. -/
abbrev lc (n : Fin 32768) (p : Fin 64) : BitVec 32 := label (px n p)
/-- The proposals of cell `n`. -/
abbrev pc (n : Fin 32768) (q : Fin 8) : EReal := prop (ix3 ⟨n.val / 4096, by omega⟩ ⟨n.val % 4096, by omega⟩ q)
/-- The initial-loss mask of cell `n`. -/
abbrev vc (n : Fin 32768) (p : Fin 64) : Bool := vi tgt valid occ occ2 (px n p)

/-- A sum over an image. -/
def imgSum (f : Img → EReal) : EReal := ∑ b : Fin 8, ∑ h : Fin 512, ∑ w : Fin 512, f (ix3 b h w)

/-- A pixel's terms. -/
def f0 (i : Img) : EReal := ind (0 < G tgt valid i)
/-- A pixel's disparity loss. -/
def f1 (i : Img) : EReal := sl1 (av (dpred i * Ideal.ofBits .f32 0x40800000#32 - G tgt valid i)) * ind (0 < G tgt valid i)
/-- A pixel's end-point error. -/
def f2 (i : Img) : EReal := av (disp i - G tgt valid i) * ind (0 < G tgt valid i)
/-- A cell's terms. -/
def f5 (n : Fin 32768) : EReal := exs (gc tgt valid n) (lc label n)
/-- A cell's matching error. -/
def f4 (n : Fin 32768) : EReal := err (gc tgt valid n) (lc label n) (pc prop n) * f5 tgt valid label n
/-- A cell's smooth matching error. -/
def f3 (n : Fin 32768) : EReal := sl1 (err (gc tgt valid n) (lc label n) (pc prop n)) * f5 tgt valid label n
/-- Whether a cell takes part in the initial loss. -/
def f7 (n : Fin 32768) : EReal := has (vc tgt valid occ occ2 n)
/-- A cell's initial loss. -/
def f6 (n : Fin 32768) : EReal := lp (vc tgt valid occ occ2 n) (gc tgt valid n) (prob (ix2 n 0)) (prob (ix2 n 1))

/-- The eight totals, numbered as the lanes of the accumulator. -/
def T0 : EReal := imgSum (f0 tgt valid)
/-- The total disparity loss. -/
def T1 : EReal := imgSum (f1 dpred tgt valid)
/-- The total end-point error. -/
def T2 : EReal := imgSum (f2 disp tgt valid)
/-- The total smooth matching error. -/
def T3 : EReal := ∑ n, f3 prop tgt valid label n
/-- The total matching error. -/
def T4 : EReal := ∑ n, f4 prop tgt valid label n
/-- The number of cells with a label. -/
def T5 : EReal := ∑ n, f5 tgt valid label n
/-- The total initial loss. -/
def T6 : EReal := ∑ n, f6 prob tgt valid occ occ2 n
/-- The number of cells that take part in the initial loss. -/
def T7 : EReal := ∑ n, f7 tgt valid occ occ2 n

/-- The five results. -/
def r1 : EReal := Ideal.div (T3 prop tgt valid label) (T5 tgt valid label + Ideal.ofBits .f32 0x358637BD#32)
/-- The matching error. -/
def r2 : EReal := Ideal.div (T4 prop tgt valid label) (T5 tgt valid label + Ideal.ofBits .f32 0x358637BD#32)
/-- The initial loss. -/
def r3 : EReal := Ideal.div (T6 prob tgt valid occ occ2) (T7 tgt valid occ occ2 + Ideal.ofBits .f32 0x358637BD#32)
/-- The disparity loss. -/
def r4 : EReal := Ideal.div (T1 dpred tgt valid) (max (T0 tgt valid) 1)
/-- The end-point error. -/
def r5 : EReal := Ideal.div (T2 disp tgt valid) (max (T0 tgt valid) 1)

end Totals

/-! Small facts on sums and bits -/

/-- A bit widened and converted is 0 or 1. -/
theorem sitofp_bit (b : BitVec 1) :
    (FloatOps.sitofp (F := Ideal) FTy.f32 (BitVec.setWidth 32 b) : EReal) = if b = 1#1 then 1 else 0 := by
  show (((BitVec.setWidth 32 b).toInt : ℝ) : EReal) = _
  rcases BitVec.eq_zero_or_eq_one b with rfl | rfl
  · simp
  · simp

/-- A decided proposition widened and converted is its indicator. -/
theorem sitofp_dec (p : Prop) [Decidable p] :
    (FloatOps.sitofp (F := Ideal) FTy.f32 (BitVec.setWidth 32 (BitVec.ofBool (decide p))) : EReal) = ind p := by
  rw [sitofp_bit, ind]
  by_cases h : p <;> simp [h]

/-- A sum of zeros and ones counts. -/
theorem sum_ind {ι : Type} [Fintype ι] (p : ι → Prop) [DecidablePred p] :
    (∑ i, if p i then (1 : EReal) else 0) = ((Finset.univ.filter p).card : EReal) := by
  rw [← Finset.sum_filter, Finset.sum_const, nsmul_one]

/-- A sum over 512 columns against the indicator of an eight-column group is the group's sum. -/
theorem sum_group (f : Fin 512 → EReal) (w : Fin 64) :
    (∑ x : Fin 512, f x * (if x.val / 8 = w.val then (1 : EReal) else 0))
      = ∑ j : Fin 8, f ⟨8 * w.val + j.val, by omega⟩ := by
  have h : ∀ x : Fin 512, f x * (if x.val / 8 = w.val then (1 : EReal) else 0) = if x.val / 8 = w.val then f x else 0 := by
    intro x; split_ifs <;> simp
  rw [Finset.sum_congr rfl fun x _ => h x, ← Finset.sum_filter]
  symm
  refine Finset.sum_bij (fun (j : Fin 8) _ => (⟨8 * w.val + j.val, by omega⟩ : Fin 512)) ?_ ?_ ?_ ?_
  · intro j _; simp; omega
  · intro a _ b _ h; simp at h; exact Fin.ext h
  · intro x hx
    simp at hx
    exact ⟨⟨x.val % 8, by omega⟩, Finset.mem_univ _, Fin.ext (by simp; omega)⟩
  · intro j _; rfl

/-- Rows and columns of a cell run over its 64 positions. -/
theorem sum_pos (f : Fin 8 → Fin 8 → EReal) :
    (∑ j : Fin 8, ∑ i : Fin 8, f i j) = ∑ p : Fin 64, f ⟨p.val / 8, by omega⟩ ⟨p.val % 8, by omega⟩ := by
  rw [Finset.sum_comm, ← Fintype.sum_prod_type' f]
  refine Fintype.sum_equiv (finProdFinEquiv (m := 8) (n := 8)) _ _ ?_
  rintro ⟨i, j⟩
  have h1 : (j.val + 8 * i.val) / 8 = i.val := by omega
  have h2 : (j.val + 8 * i.val) % 8 = j.val := by omega
  simp only [finProdFinEquiv_apply_val, h1, h2]

/-- The 32768 cells are 64 blocks of 8 rows of 64. -/
def cell (t : Fin 64) (r : Fin 8) (w : Fin 64) : Fin 32768 := ⟨t.val * 512 + r.val * 64 + w.val, by omega⟩

/-- A sum over blocks, rows and columns of cells is the sum over the cells. -/
theorem sum_cells (f : Fin 32768 → EReal) : (∑ t : Fin 64, ∑ r : Fin 8, ∑ w : Fin 64, f (cell t r w)) = ∑ n, f n := by
  have h1 : ∀ t : Fin 64, (∑ r : Fin 8, ∑ w : Fin 64, f (cell t r w)) = ∑ x : Fin 512, f ⟨t.val * 512 + x.val, by omega⟩ := by
    intro t
    rw [← Fintype.sum_prod_type']
    refine Fintype.sum_equiv (finProdFinEquiv (m := 8) (n := 64)) _ _ ?_
    rintro ⟨i, j⟩
    refine congrArg f (Fin.ext ?_)
    simp only [cell, finProdFinEquiv_apply_val]; omega
  rw [Finset.sum_congr rfl fun t _ => h1 t, ← Fintype.sum_prod_type' (fun (t : Fin 64) (x : Fin 512) => f ⟨t.val * 512 + x.val, by omega⟩)]
  refine Fintype.sum_equiv (finProdFinEquiv (m := 64) (n := 512)) _ _ ?_
  rintro ⟨i, j⟩
  refine congrArg f (Fin.ext ?_)
  simp only [finProdFinEquiv_apply_val]; omega

/-- Pixel `(r, w)` of block `t`. -/
def im (t : Fin 64) (r : Fin 64) (w : Fin 512) : Img :=
  ix3 ⟨t.val / 8, by omega⟩ ⟨64 * (t.val % 8) + r.val, by omega⟩ w

/-- A sum over blocks, rows and columns of pixels is the sum over the image. -/
theorem sum_blocks (f : Img → EReal) : (∑ t : Fin 64, ∑ r : Fin 64, ∑ w : Fin 512, f (im t r w)) = imgSum f := by
  unfold imgSum
  have h1 : ∀ b : Fin 8, (∑ h : Fin 512, ∑ w : Fin 512, f (ix3 b h w))
      = ∑ s : Fin 8, ∑ r : Fin 64, ∑ w : Fin 512, f (ix3 b ⟨s.val * 64 + r.val, by omega⟩ w) := by
    intro b
    rw [← Fintype.sum_prod_type' (fun (s : Fin 8) (r : Fin 64) => ∑ w : Fin 512, f (ix3 b ⟨s.val * 64 + r.val, by omega⟩ w))]
    symm
    refine Fintype.sum_equiv (finProdFinEquiv (m := 8) (n := 64)) _ _ ?_
    rintro ⟨i, j⟩
    have : (⟨i.val * 64 + j.val, by omega⟩ : Fin 512) = finProdFinEquiv (m := 8) (n := 64) (i, j) := by
      apply Fin.ext; simp only [finProdFinEquiv_apply_val]; omega
    simp only [this]
  rw [Finset.sum_congr rfl fun b _ => h1 b, ← Fintype.sum_prod_type' (fun (b : Fin 8) (s : Fin 8) => ∑ r : Fin 64, ∑ w : Fin 512, f (ix3 b ⟨s.val * 64 + r.val, by omega⟩ w))]
  symm
  refine Fintype.sum_equiv (finProdFinEquiv (m := 8) (n := 8)) _ _ ?_
  rintro ⟨i, j⟩
  refine Finset.sum_congr rfl fun r _ => Finset.sum_congr rfl fun w _ => congrArg f ?_
  unfold im
  have e1 : (i : Fin 8) = ⟨(finProdFinEquiv (m := 8) (n := 8) (i, j)).val / 8, by have := (finProdFinEquiv (m := 8) (n := 8) (i, j)).isLt; omega⟩ := by
    apply Fin.ext; simp only [finProdFinEquiv_apply_val]; omega
  have e2 : (⟨j.val * 64 + r.val, by omega⟩ : Fin 512) = ⟨64 * ((finProdFinEquiv (m := 8) (n := 8) (i, j)).val % 8) + r.val, by omega⟩ := by
    apply Fin.ext; simp only [finProdFinEquiv_apply_val]; omega
  exact congrArg₂ (fun a b => ix3 a b w) e1 e2

/-- A position of a cell is a pixel of its block. -/
theorem px_cell (t : Fin 64) (r : Fin 8) (w : Fin 64) (p : Fin 64) :
    px (cell t r w) p = im t ⟨r.val * 8 + p.val / 8, by omega⟩ ⟨8 * w.val + p.val % 8, by omega⟩ := by
  unfold px im cell
  have e1 : (t.val * 512 + r.val * 64 + w.val) / 4096 = t.val / 8 := by omega
  have e2 : 8 * ((t.val * 512 + r.val * 64 + w.val) / 64 % 64) + p.val / 8 = 64 * (t.val % 8) + (r.val * 8 + p.val / 8) := by omega
  have e3 : 8 * ((t.val * 512 + r.val * 64 + w.val) % 64) + p.val % 8 = 8 * w.val + p.val % 8 := by omega
  simp only [e1, e2, e3]

end Cert.Spec

end
-- ==== Proof.Consts.lean ====
/-
  What the constants of the two programs denote.
-/
module

public import Idealize.ShloMosaic.Lib.Pointwise
public import Idealize.ShloMosaic.Lib.IdealHost

@[expose] public section

noncomputable section

open Idealize.ShloMosaic

namespace Cert.Spec

/-- The word of one half. -/
theorem half_val : Ideal.ofBits .f32 0x3F000000#32 = ((1 / 2 : ℝ) : EReal) := by
  simp [Ideal.ofBits, Ideal.ieee, ← EReal.coe_mul]; norm_num
/-- The word of 320. -/
theorem c320_val : Ideal.ofBits .f32 0x43A00000#32 = ((320 : ℝ) : EReal) := by
  simp [Ideal.ofBits, Ideal.ieee, ← EReal.coe_mul]; norm_num
/-- The word of one million. -/
theorem big_val : Ideal.ofBits .f32 0x49742400#32 = ((1000000 : ℝ) : EReal) := by
  simp [Ideal.ofBits, Ideal.ieee, ← EReal.coe_mul]; norm_num
/-- The word of 100000. -/
theorem c1e5_val : Ideal.ofBits .f32 0x47C35000#32 = ((100000 : ℝ) : EReal) := by
  simp [Ideal.ofBits, Ideal.ieee, ← EReal.coe_mul]; norm_num
/-- The word of 8. -/
theorem c8_val : Ideal.ofBits .f32 0x41000000#32 = ((8 : ℝ) : EReal) := by
  simp [Ideal.ofBits, Ideal.ieee, ← EReal.coe_mul]; norm_num
/-- The word of one eighth. -/
theorem eighth_val : Ideal.ofBits .f32 0x3E000000#32 = ((1 / 8 : ℝ) : EReal) := by
  simp [Ideal.ofBits, Ideal.ieee, ← EReal.coe_mul]; norm_num
/-- The word of infinity. -/
theorem inf_val : Ideal.ofBits .f32 0x7F800000#32 = ⊤ := by
  simp [Ideal.ofBits, Ideal.ieee]
/-- The rational that the word nearest to 0.001 is. -/
theorem milli_val : Ideal.ofBits .f32 0x3A83126F#32 = ((8589935 / 8589934592 : ℝ) : EReal) := by
  simp [Ideal.ofBits, Ideal.ieee, ← EReal.coe_mul]; norm_num
/-- The rational that the word nearest to 0.000001 is. -/
theorem micro_val : Ideal.ofBits .f32 0x358637BD#32 = ((8796093 / 8796093022208 : ℝ) : EReal) := by
  simp [Ideal.ofBits, Ideal.ieee, ← EReal.coe_mul]; norm_num

end Cert.Spec

end
-- ==== Proof.KAgg.lean ====
/-
  The table of cell sums a block computes: row `16 k + r` counts the positive targets of label `k` in the 64 cells of
  cell row `r`, row `16 k + 8 + r` sums them, rows 64 to 79 do the same for the initial-loss mask.
-/
module

public import proofs.«01_k».proof.Proof.KBlock
public import proofs.«01_k».proof.Proof.Spec
public import proofs.«01_k».proof.Proof.Consts
public import Idealize.ShloMosaic.Lib.StableHlo.Predicate

@[expose] public section

set_option maxRecDepth 16384

noncomputable section

open Idealize.ShloMosaic Idealize.ShloMosaic.TcCoe Idealize.SL.Sem
open Cert.KernelIdeal Cert.KernelIdeal.Gen Cert.KBlock Cert.Spec

namespace Cert.KLane

/-- What the nine blocks of point `t` are of the argument arrays. -/
structure Blk (t : Fin 64) (x0 : Vec Ideal S512x40 .f32) (x1 : Vec Ideal S1x512x8 .f32) (x2 x3 x4 : Vec Ideal S1x64x512 .f32)
    (x5 x6 x7 x8 : Vec Ideal S1x64x512 .i32)
    (prob : (⟨2, ![32768, 40]⟩ : Shape).Idx → EReal) (prop : (⟨3, ![8, 4096, 8]⟩ : Shape).Idx → EReal)
    (disp dpred tgt : Img → EReal) (valid occ occ2 : Img → BitVec 1) (label : Img → BitVec 32) : Prop where
  h0 : ∀ (a : Fin 512) (k : Fin 40), x0 (ix2 a k) = prob (ix2 ⟨t.val * 512 + a.val, by omega⟩ k)
  h1 : ∀ (a : Fin 512) (q : Fin 8), x1 (ix3 0 a q) = prop (ix3 ⟨t.val / 8, by omega⟩ ⟨512 * (t.val % 8) + a.val, by omega⟩ q)
  h2 : ∀ (r : Fin 64) (w : Fin 512), x2 (ix3 0 r w) = disp (im t r w)
  h3 : ∀ (r : Fin 64) (w : Fin 512), x3 (ix3 0 r w) = dpred (im t r w)
  h4 : ∀ (r : Fin 64) (w : Fin 512), x4 (ix3 0 r w) = tgt (im t r w)
  h5 : ∀ (r : Fin 64) (w : Fin 512), x5 (ix3 0 r w) = (valid (im t r w)).setWidth 32
  h6 : ∀ (r : Fin 64) (w : Fin 512), x6 (ix3 0 r w) = (occ (im t r w)).setWidth 32
  h7 : ∀ (r : Fin 64) (w : Fin 512), x7 (ix3 0 r w) = (occ2 (im t r w)).setWidth 32
  h8 : ∀ (r : Fin 64) (w : Fin 512), x8 (ix3 0 r w) = label (im t r w)

/-- A widened bit is not the zero word exactly when it is set. -/
theorem cmpi_ne_setWidth (b : BitVec 1) : IntOp.cmpi CmpIPredicate.ne (BitVec.setWidth 32 b) 0#32 = b := by
  rcases BitVec.eq_zero_or_eq_one b with rfl | rfl <;> decide

/-- The column number divided by eight, as the program divides. -/
theorem sel_quot : ∀ x : Fin 512,
    Scalar.select
        (IntOp.andi
          (IntOp.cmpi CmpIPredicate.ne
            (IntOp.subi
              (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 x.val) 8#32) 0#32))
        (IntOp.subi (IntOp.divsi ArithUnit.vector (BitVec.ofNat 32 x.val) 8#32) 1#32)
        (IntOp.divsi ArithUnit.vector (BitVec.ofNat 32 x.val) 8#32) = BitVec.ofNat 32 (x.val / 8) := by
  decide +kernel

/-- Two small words are equal exactly when their numbers are. -/
theorem eq_word (x : Fin 512) (w : Fin 64) :
    (IntOp.cmpi CmpIPredicate.eq (BitVec.ofNat 32 (x.val / 8)) (BitVec.ofNat 32 w.val) = 1#1) ↔ x.val / 8 = w.val := by
  simp only [IntOp.cmpi, StableHlo.Predicate.ofBool_eq_one_iff, beq_iff_eq]
  constructor
  · intro h
    have := congrArg BitVec.toNat h
    simp only [BitVec.toNat_ofNat] at this
    omega
  · intro h; rw [h]

/-- An entry of the table is the sum of the eight columns of its cell. -/
theorem pay15_apply (cat : FVec Ideal S80x512 .f32) (k : Fin 80) (w : Fin 64) :
    k0_pay15 cat (iota .tc S512x64 32 [0] iota_S512x64_d0_w32) 8#32 k0_pay13 k0_pay14 (ix2 k w)
      = ∑ j : Fin 8, cat (ix2 k ⟨8 * w.val + j.val, by omega⟩) := by
  pointwise [k0_pay15, k0_pay13, k0_pay14]
  simp only [sel_quot, sitofp_bit, eq_word]
  exact sum_group (fun x => cat (ix2 k x)) w

section Cat

variable (v11 v69 v76 : FVec Ideal S64x512 .f32) (v13 : IVec S64x512 1) (v71 : IVec S64x512 32)

/-- Rows 0 to 7 of the concatenated planes are plane 0 summed over groups of eight rows. -/
theorem cat0 (r : Fin 8) (x : Fin 512) : k0_pay12 v11 v13 v69 v71 v76 (ix2 ⟨r.val, by omega⟩ x)
    = ∑ i : Fin 8, v76 (ix2 ⟨r.val * 8 + i.val, by omega⟩ x) := by
  pointwise (disch := omega) [k0_pay12, dif_pos, dif_neg]
/-- Rows 8 to 15 of the concatenated planes are plane 1 summed over groups of eight rows. -/
theorem cat1 (r : Fin 8) (x : Fin 512) : k0_pay12 v11 v13 v69 v71 v76 (ix2 ⟨8 + r.val, by omega⟩ x)
    = ∑ i : Fin 8, v76 (ix2 ⟨r.val * 8 + i.val, by omega⟩ x) * v11 (ix2 ⟨r.val * 8 + i.val, by omega⟩ x) := by
  pointwise (disch := omega) [k0_pay12, dif_pos, dif_neg]
/-- Rows 16 to 23 of the concatenated planes are plane 2 summed over groups of eight rows. -/
theorem cat2 (r : Fin 8) (x : Fin 512) : k0_pay12 v11 v13 v69 v71 v76 (ix2 ⟨16 + r.val, by omega⟩ x)
    = ∑ i : Fin 8, FloatOps.sitofp (F := Ideal) FTy.f32 (BitVec.setWidth 32 (IntOp.andi (IntOp.cmpi CmpIPredicate.eq (v71 (ix2 ⟨r.val * 8 + i.val, by omega⟩ x)) 1#32) (v13 (ix2 ⟨r.val * 8 + i.val, by omega⟩ x)))) := by
  pointwise (disch := omega) [k0_pay12, dif_pos, dif_neg]
  have e : 16 + r.val - 8 - 8 = r.val := by omega
  simp only [e]
/-- Rows 24 to 31 of the concatenated planes are plane 3 summed over groups of eight rows. -/
theorem cat3 (r : Fin 8) (x : Fin 512) : k0_pay12 v11 v13 v69 v71 v76 (ix2 ⟨24 + r.val, by omega⟩ x)
    = ∑ i : Fin 8, FloatOps.sitofp (F := Ideal) FTy.f32 (BitVec.setWidth 32 (IntOp.andi (IntOp.cmpi CmpIPredicate.eq (v71 (ix2 ⟨r.val * 8 + i.val, by omega⟩ x)) 1#32) (v13 (ix2 ⟨r.val * 8 + i.val, by omega⟩ x)))) * v11 (ix2 ⟨r.val * 8 + i.val, by omega⟩ x) := by
  pointwise (disch := omega) [k0_pay12, dif_pos, dif_neg]
  have e : 24 + r.val - 8 - 8 - 8 = r.val := by omega
  simp only [e]
/-- Rows 32 to 39 of the concatenated planes are plane 4 summed over groups of eight rows. -/
theorem cat4 (r : Fin 8) (x : Fin 512) : k0_pay12 v11 v13 v69 v71 v76 (ix2 ⟨32 + r.val, by omega⟩ x)
    = ∑ i : Fin 8, FloatOps.sitofp (F := Ideal) FTy.f32 (BitVec.setWidth 32 (IntOp.andi (IntOp.cmpi CmpIPredicate.eq (v71 (ix2 ⟨r.val * 8 + i.val, by omega⟩ x)) 2#32) (v13 (ix2 ⟨r.val * 8 + i.val, by omega⟩ x)))) := by
  pointwise (disch := omega) [k0_pay12, dif_pos, dif_neg]
  have e : 32 + r.val - 8 - 8 - 8 - 8 = r.val := by omega
  simp only [e]
/-- Rows 40 to 47 of the concatenated planes are plane 5 summed over groups of eight rows. -/
theorem cat5 (r : Fin 8) (x : Fin 512) : k0_pay12 v11 v13 v69 v71 v76 (ix2 ⟨40 + r.val, by omega⟩ x)
    = ∑ i : Fin 8, FloatOps.sitofp (F := Ideal) FTy.f32 (BitVec.setWidth 32 (IntOp.andi (IntOp.cmpi CmpIPredicate.eq (v71 (ix2 ⟨r.val * 8 + i.val, by omega⟩ x)) 2#32) (v13 (ix2 ⟨r.val * 8 + i.val, by omega⟩ x)))) * v11 (ix2 ⟨r.val * 8 + i.val, by omega⟩ x) := by
  pointwise (disch := omega) [k0_pay12, dif_pos, dif_neg]
  have e : 40 + r.val - 8 - 8 - 8 - 8 - 8 = r.val := by omega
  simp only [e]
/-- Rows 48 to 55 of the concatenated planes are plane 6 summed over groups of eight rows. -/
theorem cat6 (r : Fin 8) (x : Fin 512) : k0_pay12 v11 v13 v69 v71 v76 (ix2 ⟨48 + r.val, by omega⟩ x)
    = ∑ i : Fin 8, FloatOps.sitofp (F := Ideal) FTy.f32 (BitVec.setWidth 32 (IntOp.andi (IntOp.cmpi CmpIPredicate.eq (v71 (ix2 ⟨r.val * 8 + i.val, by omega⟩ x)) 3#32) (v13 (ix2 ⟨r.val * 8 + i.val, by omega⟩ x)))) := by
  pointwise (disch := omega) [k0_pay12, dif_pos, dif_neg]
  have e : 48 + r.val - 8 - 8 - 8 - 8 - 8 - 8 = r.val := by omega
  simp only [e]
/-- Rows 56 to 63 of the concatenated planes are plane 7 summed over groups of eight rows. -/
theorem cat7 (r : Fin 8) (x : Fin 512) : k0_pay12 v11 v13 v69 v71 v76 (ix2 ⟨56 + r.val, by omega⟩ x)
    = ∑ i : Fin 8, FloatOps.sitofp (F := Ideal) FTy.f32 (BitVec.setWidth 32 (IntOp.andi (IntOp.cmpi CmpIPredicate.eq (v71 (ix2 ⟨r.val * 8 + i.val, by omega⟩ x)) 3#32) (v13 (ix2 ⟨r.val * 8 + i.val, by omega⟩ x)))) * v11 (ix2 ⟨r.val * 8 + i.val, by omega⟩ x) := by
  pointwise (disch := omega) [k0_pay12, dif_pos, dif_neg]
  have e : 56 + r.val - 8 - 8 - 8 - 8 - 8 - 8 - 8 = r.val := by omega
  simp only [e]
/-- Rows 64 to 71 of the concatenated planes are plane 8 summed over groups of eight rows. -/
theorem cat8 (r : Fin 8) (x : Fin 512) : k0_pay12 v11 v13 v69 v71 v76 (ix2 ⟨64 + r.val, by omega⟩ x)
    = ∑ i : Fin 8, v69 (ix2 ⟨r.val * 8 + i.val, by omega⟩ x) := by
  pointwise (disch := omega) [k0_pay12, dif_pos, dif_neg]
  have e : 64 + r.val - 8 - 8 - 8 - 8 - 8 - 8 - 8 - 8 = r.val := by omega
  simp only [e]
/-- Rows 72 to 79 of the concatenated planes are plane 9 summed over groups of eight rows. -/
theorem cat9 (r : Fin 8) (x : Fin 512) : k0_pay12 v11 v13 v69 v71 v76 (ix2 ⟨72 + r.val, by omega⟩ x)
    = ∑ i : Fin 8, v69 (ix2 ⟨r.val * 8 + i.val, by omega⟩ x) * v11 (ix2 ⟨r.val * 8 + i.val, by omega⟩ x) := by
  pointwise (disch := omega) [k0_pay12, dif_pos, dif_neg]
  have e : 72 + r.val - 8 - 8 - 8 - 8 - 8 - 8 - 8 - 8 - 8 = r.val := by omega
  simp only [e]
end Cat

/-! The entries, over the argument arrays -/

/-- The printed masked target is the masked target. -/
theorem select_G (tgt : Img → EReal) (valid : Img → BitVec 1) (i : Img) :
    Scalar.select (valid i) (tgt i) (0 : EReal) = G tgt valid i := by
  unfold G Scalar.select
  rcases BitVec.eq_zero_or_eq_one (valid i) with h | h <;> simp [h]

/-- A label's printed mask, as a number. -/
theorem mask_bit (l k : BitVec 32) (g : EReal) :
    (FloatOps.sitofp (F := Ideal) FTy.f32 (BitVec.setWidth 32 (IntOp.andi (IntOp.cmpi CmpIPredicate.eq l k) (BitVec.ofBool (decide (0 < g))))) : EReal)
      = if l = k ∧ 0 < g then 1 else 0 := by
  rw [sitofp_bit]
  congr 1
  simp only [IntOp.cmpi, IntOp.andi, eq_iff_iff]
  by_cases h1 : l = k
  · by_cases h2 : 0 < g <;> simp [h1, h2]
  · have h3 : (l == k) = false := by simpa using h1
    by_cases h2 : 0 < g <;> simp [h1, h2, h3]

/-- An indicator times a value. -/
theorem ite_mul_self (p : Prop) [Decidable p] (g : EReal) : (if p then (1 : EReal) else 0) * g = if p then g else 0 := by
  split_ifs <;> simp

/-- Zero or one is below one half exactly when it is zero. -/
theorem bit_lt_half (b : BitVec 1) : ((if b = 1#1 then (1 : EReal) else 0) < Ideal.ofBits FTy.f32 1056964608#32) ↔ b = 0#1 := by
  rw [half_val]
  rcases BitVec.eq_zero_or_eq_one b with rfl | rfl
  · simp
  · simp only [↓reduceIte, iff_false, not_lt]
    exact ⟨fun h => absurd h (by
      rw [show (1 : EReal) = ((1 : ℝ) : EReal) by norm_cast, EReal.coe_lt_coe_iff]; norm_num), fun h => by simp at h⟩

/-- A column number is at least one as a word exactly when it is as a number. -/
theorem sge_one : ∀ w : Fin 512, (IntOp.cmpi CmpIPredicate.sge (BitVec.ofNat 32 w.val) 1#32) = BitVec.ofBool (decide (1 ≤ w.val)) := by
  decide +kernel

/-- The printed initial-loss mask, as a number. -/
theorem vi_bit (a : BitVec 1) (p q s : Prop) [Decidable p] [Decidable q] [Decidable s] :
    (if IntOp.andi (IntOp.andi (IntOp.andi (BitVec.ofBool (decide p)) (IntOp.xori a 1#1)) (BitVec.ofBool (decide q)))
        (BitVec.ofBool (decide s)) = 1#1 then (1 : EReal) else 0) = if p ∧ a = 0#1 ∧ q ∧ s then 1 else 0 := by
  congr 1
  rcases BitVec.eq_zero_or_eq_one a with rfl | rfl <;>
  by_cases h1 : p <;> by_cases h2 : q <;> by_cases h3 : s <;> simp [h1, h2, h3, IntOp.andi, IntOp.xori]

variable {t : Fin 64} {x0 : Vec Ideal S512x40 .f32} {x1 : Vec Ideal S1x512x8 .f32} {x2 x3 x4 : Vec Ideal S1x64x512 .f32}
    {x5 x6 x7 x8 : Vec Ideal S1x64x512 .i32}
    {prob : (⟨2, ![32768, 40]⟩ : Shape).Idx → EReal} {prop : (⟨3, ![8, 4096, 8]⟩ : Shape).Idx → EReal}
    {disp dpred tgt : Img → EReal} {valid occ occ2 : Img → BitVec 1} {label : Img → BitVec 32}
    (H : Blk t x0 x1 x2 x3 x4 x5 x6 x7 x8 prob prop disp dpred tgt valid occ occ2 label)
include H

/-- A cell's count from its 64 pixels, as the columns and rows run. -/
theorem cN_block (k : BitVec 32) (r : Fin 8) (w : Fin 64) :
    (∑ j : Fin 8, ∑ i : Fin 8, if label (im t ⟨r.val * 8 + i.val, by omega⟩ ⟨8 * w.val + j.val, by omega⟩) = k
        ∧ 0 < G tgt valid (im t ⟨r.val * 8 + i.val, by omega⟩ ⟨8 * w.val + j.val, by omega⟩) then (1 : EReal) else 0)
      = (cN (gc tgt valid (cell t r w)) (lc label (cell t r w)) k : EReal) := by
  refine (sum_pos fun i j => if label (im t ⟨r.val * 8 + i.val, by omega⟩ ⟨8 * w.val + j.val, by omega⟩) = k
        ∧ 0 < G tgt valid (im t ⟨r.val * 8 + i.val, by omega⟩ ⟨8 * w.val + j.val, by omega⟩) then (1 : EReal) else 0).trans ?_
  unfold cN
  rw [← sum_ind]
  simp only [gc, lc, px_cell]

/-- A cell's sum from its 64 pixels. -/
theorem sm_block (k : BitVec 32) (r : Fin 8) (w : Fin 64) :
    (∑ j : Fin 8, ∑ i : Fin 8, if label (im t ⟨r.val * 8 + i.val, by omega⟩ ⟨8 * w.val + j.val, by omega⟩) = k
        ∧ 0 < G tgt valid (im t ⟨r.val * 8 + i.val, by omega⟩ ⟨8 * w.val + j.val, by omega⟩)
          then G tgt valid (im t ⟨r.val * 8 + i.val, by omega⟩ ⟨8 * w.val + j.val, by omega⟩) else 0)
      = sm (gc tgt valid (cell t r w)) (lc label (cell t r w)) k := by
  refine (sum_pos fun i j => if label (im t ⟨r.val * 8 + i.val, by omega⟩ ⟨8 * w.val + j.val, by omega⟩) = k
        ∧ 0 < G tgt valid (im t ⟨r.val * 8 + i.val, by omega⟩ ⟨8 * w.val + j.val, by omega⟩)
          then G tgt valid (im t ⟨r.val * 8 + i.val, by omega⟩ ⟨8 * w.val + j.val, by omega⟩) else 0).trans ?_
  unfold sm
  simp only [gc, lc, px_cell]

/-- Rows 0 to 7: the counts of label 0. -/
theorem agg0 (r : Fin 8) (w : Fin 64) : agg x4 x5 x6 x7 x8 (ix2 ⟨r.val, by omega⟩ w)
    = (cN (gc tgt valid (cell t r w)) (lc label (cell t r w)) 0#32 : EReal) := by
  rw [← cN_block H]
  unfold agg
  rw [pay15_apply]
  refine Finset.sum_congr rfl fun j _ => ?_
  rw [cat0]
  refine Finset.sum_congr rfl fun i _ => ?_
  pointwise [k0_pay11, k0_pay10, k0_pay3, k0_pay2, H.h4, H.h5, H.h8, cmpi_ne_setWidth, select_G, mask_bit]

/-- Rows 8 to 15: the sums of label 0. -/
theorem agg1 (r : Fin 8) (w : Fin 64) : agg x4 x5 x6 x7 x8 (ix2 ⟨8 + r.val, by omega⟩ w)
    = sm (gc tgt valid (cell t r w)) (lc label (cell t r w)) 0#32 := by
  rw [← sm_block H]
  unfold agg
  rw [pay15_apply]
  refine Finset.sum_congr rfl fun j _ => ?_
  rw [cat1]
  refine Finset.sum_congr rfl fun i _ => ?_
  pointwise [k0_pay11, k0_pay10, k0_pay3, k0_pay2, H.h4, H.h5, H.h8, cmpi_ne_setWidth, select_G, mask_bit, ite_mul_self]

/-- Rows 16 to 23: the counts of label 1. -/
theorem agg2 (r : Fin 8) (w : Fin 64) : agg x4 x5 x6 x7 x8 (ix2 ⟨16 + r.val, by omega⟩ w)
    = (cN (gc tgt valid (cell t r w)) (lc label (cell t r w)) 1#32 : EReal) := by
  rw [← cN_block H]
  unfold agg
  rw [pay15_apply]
  refine Finset.sum_congr rfl fun j _ => ?_
  rw [cat2]
  refine Finset.sum_congr rfl fun i _ => ?_
  pointwise [k0_pay11, k0_pay10, k0_pay3, k0_pay2, H.h4, H.h5, H.h8, cmpi_ne_setWidth, select_G, mask_bit]

/-- Rows 24 to 31: the sums of label 1. -/
theorem agg3 (r : Fin 8) (w : Fin 64) : agg x4 x5 x6 x7 x8 (ix2 ⟨24 + r.val, by omega⟩ w)
    = sm (gc tgt valid (cell t r w)) (lc label (cell t r w)) 1#32 := by
  rw [← sm_block H]
  unfold agg
  rw [pay15_apply]
  refine Finset.sum_congr rfl fun j _ => ?_
  rw [cat3]
  refine Finset.sum_congr rfl fun i _ => ?_
  pointwise [k0_pay11, k0_pay10, k0_pay3, k0_pay2, H.h4, H.h5, H.h8, cmpi_ne_setWidth, select_G, mask_bit, ite_mul_self]

/-- Rows 32 to 39: the counts of label 2. -/
theorem agg4 (r : Fin 8) (w : Fin 64) : agg x4 x5 x6 x7 x8 (ix2 ⟨32 + r.val, by omega⟩ w)
    = (cN (gc tgt valid (cell t r w)) (lc label (cell t r w)) 2#32 : EReal) := by
  rw [← cN_block H]
  unfold agg
  rw [pay15_apply]
  refine Finset.sum_congr rfl fun j _ => ?_
  rw [cat4]
  refine Finset.sum_congr rfl fun i _ => ?_
  pointwise [k0_pay11, k0_pay10, k0_pay3, k0_pay2, H.h4, H.h5, H.h8, cmpi_ne_setWidth, select_G, mask_bit]

/-- Rows 40 to 47: the sums of label 2. -/
theorem agg5 (r : Fin 8) (w : Fin 64) : agg x4 x5 x6 x7 x8 (ix2 ⟨40 + r.val, by omega⟩ w)
    = sm (gc tgt valid (cell t r w)) (lc label (cell t r w)) 2#32 := by
  rw [← sm_block H]
  unfold agg
  rw [pay15_apply]
  refine Finset.sum_congr rfl fun j _ => ?_
  rw [cat5]
  refine Finset.sum_congr rfl fun i _ => ?_
  pointwise [k0_pay11, k0_pay10, k0_pay3, k0_pay2, H.h4, H.h5, H.h8, cmpi_ne_setWidth, select_G, mask_bit, ite_mul_self]

/-- Rows 48 to 55: the counts of label 3. -/
theorem agg6 (r : Fin 8) (w : Fin 64) : agg x4 x5 x6 x7 x8 (ix2 ⟨48 + r.val, by omega⟩ w)
    = (cN (gc tgt valid (cell t r w)) (lc label (cell t r w)) 3#32 : EReal) := by
  rw [← cN_block H]
  unfold agg
  rw [pay15_apply]
  refine Finset.sum_congr rfl fun j _ => ?_
  rw [cat6]
  refine Finset.sum_congr rfl fun i _ => ?_
  pointwise [k0_pay11, k0_pay10, k0_pay3, k0_pay2, H.h4, H.h5, H.h8, cmpi_ne_setWidth, select_G, mask_bit]

/-- Rows 56 to 63: the sums of label 3. -/
theorem agg7 (r : Fin 8) (w : Fin 64) : agg x4 x5 x6 x7 x8 (ix2 ⟨56 + r.val, by omega⟩ w)
    = sm (gc tgt valid (cell t r w)) (lc label (cell t r w)) 3#32 := by
  rw [← sm_block H]
  unfold agg
  rw [pay15_apply]
  refine Finset.sum_congr rfl fun j _ => ?_
  rw [cat7]
  refine Finset.sum_congr rfl fun i _ => ?_
  pointwise [k0_pay11, k0_pay10, k0_pay3, k0_pay2, H.h4, H.h5, H.h8, cmpi_ne_setWidth, select_G, mask_bit, ite_mul_self]

/-- The initial-loss mask of a block's pixel. -/
theorem pay9_apply (r : Fin 64) (w : Fin 512) :
    k0_pay9 (k0_pay3 x5 x4) x7 x6 (ix2 r w) = if vi tgt valid occ occ2 (im t r w) = true then (1 : EReal) else 0 := by
  pointwise [k0_pay9, k0_pay3, k0_pay2, H.h4, H.h5, H.h6, H.h7, cmpi_ne_setWidth, select_G, sge_one, sitofp_bit]
  have e : (if h : w.val < 1 then (if occ2 (im t r w) = 1#1 then (1 : EReal) else 0) else if occ2 (im t r ⟨w.val - 1, by omega⟩) = 1#1 then 1 else 0)
      = if occ2 (im t r ⟨w.val - 1, by omega⟩) = 1#1 then 1 else 0 := by
    by_cases h : w.val < 1
    · have e0 : (⟨w.val - 1, by omega⟩ : Fin 512) = w := Fin.ext (by simp only; omega)
      simp only [h, ↓reduceDIte, e0]
    · simp only [h, ↓reduceDIte]
  rw [e]
  simp only [bit_lt_half, vi_bit]
  unfold vi
  simp only [decide_eq_true_eq]
  rfl

/-- Rows 64 to 71: the number of positions in the initial-loss mask. -/
theorem agg8 (r : Fin 8) (w : Fin 64) : agg x4 x5 x6 x7 x8 (ix2 ⟨64 + r.val, by omega⟩ w)
    = (nv (vc tgt valid occ occ2 (cell t r w)) : EReal) := by
  unfold agg
  rw [pay15_apply]
  simp only [cat8, pay9_apply H]
  refine (sum_pos fun i j => if vi tgt valid occ occ2 (im t ⟨r.val * 8 + i.val, by omega⟩ ⟨8 * w.val + j.val, by omega⟩) = true then (1 : EReal) else 0).trans ?_
  unfold nv
  rw [← sum_ind]
  simp only [vc, px_cell]

/-- Rows 72 to 79: the sum of the targets there. -/
theorem agg9 (r : Fin 8) (w : Fin 64) : agg x4 x5 x6 x7 x8 (ix2 ⟨72 + r.val, by omega⟩ w)
    = sv (vc tgt valid occ occ2 (cell t r w)) (gc tgt valid (cell t r w)) := by
  unfold agg
  rw [pay15_apply]
  simp only [cat9, pay9_apply H, ite_mul_self]
  pointwise [k0_pay2, H.h4, H.h5, cmpi_ne_setWidth, select_G]
  refine (sum_pos fun i j => if vi tgt valid occ occ2 (im t ⟨r.val * 8 + i.val, by omega⟩ ⟨8 * w.val + j.val, by omega⟩) = true
    then G tgt valid (im t ⟨r.val * 8 + i.val, by omega⟩ ⟨8 * w.val + j.val, by omega⟩) else 0).trans ?_
  unfold sv
  simp only [vc, gc, px_cell]

end Cert.KLane

end
-- ==== Proof.KLane.lean ====
/-
  The eight partial sums of one block, over the argument arrays.
-/
module

public import proofs.«01_k».proof.Proof.KAgg

@[expose] public section

set_option maxRecDepth 16384

noncomputable section

open Idealize.ShloMosaic Idealize.ShloMosaic.TcCoe Idealize.SL.Sem
open Cert.KernelIdeal Cert.KernelIdeal.Gen Cert.KBlock Cert.Spec

namespace Cert.KLane

/-- A count is positive as an extended real exactly when it is. -/
theorem pos_cast (n : ℕ) : (0 < (n : EReal)) ↔ 0 < n := by
  rw [← EReal.coe_natCast, EReal.coe_pos, Nat.cast_pos]

/-- The indicator of a positive count does not depend on the cast. -/
theorem ind_cast (n : ℕ) : ind (0 < (n : EReal)) = ind (0 < n) := by
  unfold ind; simp only [pos_cast]

/-- The index of a cell from its block, row and column. -/
theorem cell_eq (t : Fin 64) (r : Fin 8) (w : Fin 64) (h : t.val * 512 + (r.val * 64 + w.val) < 32768) :
    (⟨t.val * 512 + (r.val * 64 + w.val), h⟩ : Fin 32768) = cell t r w := Fin.ext (by simp only [cell]; omega)

/-- A proposal of a block is the proposal of its cell. -/
theorem prop_cell (prop : (⟨3, ![8, 4096, 8]⟩ : Shape).Idx → EReal) (t : Fin 64) (r : Fin 8) (w : Fin 64) (q : Fin 8)
    (h1 : t.val / 8 < 8) (h2 : 512 * (t.val % 8) + (r.val * 64 + w.val) < 4096) :
    prop (ix3 ⟨t.val / 8, h1⟩ ⟨512 * (t.val % 8) + (r.val * 64 + w.val), h2⟩ q) = pc prop (cell t r w) q := by
  have e1 : (cell t r w).val / 4096 = t.val / 8 := by simp only [cell]; omega
  have e2 : (cell t r w).val % 4096 = 512 * (t.val % 8) + (r.val * 64 + w.val) := by simp only [cell]; omega
  unfold pc
  simp only [e1, e2]

/-- Lane 0 of a block's update is the accumulator's lane plus the block's sum 0. -/
theorem pay41_0 (a b d e f g h z : Ideal .f32) (xo : Vec Ideal S1x128 .f32) :
    k0_pay41 a b d e f g h (iota .tc S1x128 32 [1] iota_S1x128_d1_w32) (k0_pay39 z) k0_pay40 xo (ix2 0 0) = xo (ix2 0 0) + z := by
  pointwise [k0_pay41, k0_pay39, k0_pay40]
  try simp [IntOp.cmpi, Scalar.select]
/-- Lane 1 of a block's update is the accumulator's lane plus the block's sum 1. -/
theorem pay41_1 (a b d e f g h z : Ideal .f32) (xo : Vec Ideal S1x128 .f32) :
    k0_pay41 a b d e f g h (iota .tc S1x128 32 [1] iota_S1x128_d1_w32) (k0_pay39 z) k0_pay40 xo (ix2 0 1) = xo (ix2 0 1) + a := by
  pointwise [k0_pay41, k0_pay39, k0_pay40]
  try simp [IntOp.cmpi, Scalar.select]
/-- Lane 2 of a block's update is the accumulator's lane plus the block's sum 2. -/
theorem pay41_2 (a b d e f g h z : Ideal .f32) (xo : Vec Ideal S1x128 .f32) :
    k0_pay41 a b d e f g h (iota .tc S1x128 32 [1] iota_S1x128_d1_w32) (k0_pay39 z) k0_pay40 xo (ix2 0 2) = xo (ix2 0 2) + b := by
  pointwise [k0_pay41, k0_pay39, k0_pay40]
  try simp [IntOp.cmpi, Scalar.select]
/-- Lane 3 of a block's update is the accumulator's lane plus the block's sum 3. -/
theorem pay41_3 (a b d e f g h z : Ideal .f32) (xo : Vec Ideal S1x128 .f32) :
    k0_pay41 a b d e f g h (iota .tc S1x128 32 [1] iota_S1x128_d1_w32) (k0_pay39 z) k0_pay40 xo (ix2 0 3) = xo (ix2 0 3) + d := by
  pointwise [k0_pay41, k0_pay39, k0_pay40]
  try simp [IntOp.cmpi, Scalar.select]
/-- Lane 4 of a block's update is the accumulator's lane plus the block's sum 4. -/
theorem pay41_4 (a b d e f g h z : Ideal .f32) (xo : Vec Ideal S1x128 .f32) :
    k0_pay41 a b d e f g h (iota .tc S1x128 32 [1] iota_S1x128_d1_w32) (k0_pay39 z) k0_pay40 xo (ix2 0 4) = xo (ix2 0 4) + e := by
  pointwise [k0_pay41, k0_pay39, k0_pay40]
  try simp [IntOp.cmpi, Scalar.select]
/-- Lane 5 of a block's update is the accumulator's lane plus the block's sum 5. -/
theorem pay41_5 (a b d e f g h z : Ideal .f32) (xo : Vec Ideal S1x128 .f32) :
    k0_pay41 a b d e f g h (iota .tc S1x128 32 [1] iota_S1x128_d1_w32) (k0_pay39 z) k0_pay40 xo (ix2 0 5) = xo (ix2 0 5) + f := by
  pointwise [k0_pay41, k0_pay39, k0_pay40]
  try simp [IntOp.cmpi, Scalar.select]
/-- Lane 6 of a block's update is the accumulator's lane plus the block's sum 6. -/
theorem pay41_6 (a b d e f g h z : Ideal .f32) (xo : Vec Ideal S1x128 .f32) :
    k0_pay41 a b d e f g h (iota .tc S1x128 32 [1] iota_S1x128_d1_w32) (k0_pay39 z) k0_pay40 xo (ix2 0 6) = xo (ix2 0 6) + g := by
  pointwise [k0_pay41, k0_pay39, k0_pay40]
  try simp [IntOp.cmpi, Scalar.select]
/-- Lane 7 of a block's update is the accumulator's lane plus the block's sum 7. -/
theorem pay41_7 (a b d e f g h z : Ideal .f32) (xo : Vec Ideal S1x128 .f32) :
    k0_pay41 a b d e f g h (iota .tc S1x128 32 [1] iota_S1x128_d1_w32) (k0_pay39 z) k0_pay40 xo (ix2 0 7) = xo (ix2 0 7) + h := by
  pointwise [k0_pay41, k0_pay39, k0_pay40]
  try simp [IntOp.cmpi, Scalar.select]

variable {t : Fin 64} {x0 : Vec Ideal S512x40 .f32} {x1 : Vec Ideal S1x512x8 .f32} {x2 x3 x4 : Vec Ideal S1x64x512 .f32}
    {x5 x6 x7 x8 : Vec Ideal S1x64x512 .i32}
    {prob : (⟨2, ![32768, 40]⟩ : Shape).Idx → EReal} {prop : (⟨3, ![8, 4096, 8]⟩ : Shape).Idx → EReal}
    {disp dpred tgt : Img → EReal} {valid occ occ2 : Img → BitVec 1} {label : Img → BitVec 32}
    (H : Blk t x0 x1 x2 x3 x4 x5 x6 x7 x8 prob prop disp dpred tgt valid occ occ2 label)
include H

/-- The block's count of positive targets. -/
theorem lane0 : k0_pay5 x5 x4 = ∑ r : Fin 64, ∑ w : Fin 512, f0 tgt valid (im t r w) := by
  pointwise [k0_pay5, k0_pay4, k0_pay2, k0_pay3, H.h4, H.h5, cmpi_ne_setWidth, select_G, sitofp_dec, f0]

/-- The block's sum of the disparity loss. -/
theorem lane1 : k0_pay7 (k0_pay6 x5 x4 x3) = ∑ r : Fin 64, ∑ w : Fin 512, f1 dpred tgt valid (im t r w) := by
  pointwise [k0_pay6, k0_pay7, k0_pay4, k0_pay2, k0_pay3, H.h3, H.h4, H.h5, cmpi_ne_setWidth, select_G, sitofp_dec, f1, sl1, Ideal.absf_def]

/-- The block's sum of the end-point error. -/
theorem lane2 : k0_pay8 (k0_pay2 x5 x4) (k0_pay4 x5 x4) x2 = ∑ r : Fin 64, ∑ w : Fin 512, f2 disp tgt valid (im t r w) := by
  pointwise [k0_pay8, k0_pay7, k0_pay4, k0_pay2, k0_pay3, H.h2, H.h4, H.h5, cmpi_ne_setWidth, select_G, sitofp_dec, f2, Ideal.absf_def]

/-- The block's sum of the initial loss. -/
theorem lane6 : k0_pay37 (agg x4 x5 x6 x7 x8) x0 = ∑ r : Fin 8, ∑ w : Fin 64, f6 prob tgt valid occ occ2 (cell t r w) := by
  pointwise [k0_pay37, k0_pay35, k0_pay36, agg8 H, agg9 H, H.h0, sitofp_dec, f6, lp, has, ind_cast, cell_eq]

/-- The block's count of cells that take part in the initial loss. -/
theorem lane7 : k0_pay38 (agg x4 x5 x6 x7 x8) = ∑ r : Fin 8, ∑ w : Fin 64, f7 tgt valid occ occ2 (cell t r w) := by
  pointwise [k0_pay38, k0_pay35, k0_pay36, agg8 H, sitofp_dec, f7, has, ind_cast]

/-- The block's matching error of a cell. -/
theorem err_apply (r : Fin 8) (w : Fin 64) :
    k0_pay29 (agg x4 x5 x6 x7 x8) (k0_pay16 x1)
      (k0_pay22 (agg x4 x5 x6 x7 x8) (k0_pay16 x1) k0_pay17
        (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14)
        (k0_pay20 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14 x1))
      (k0_pay25 (agg x4 x5 x6 x7 x8) (k0_pay16 x1)) (k0_pay26 (agg x4 x5 x6 x7 x8)) k0_pay27 (ix2 r w)
      = err (gc tgt valid (cell t r w)) (lc label (cell t r w)) (pc prop (cell t r w)) := by
  have hagg : k0_pay15 (k0_pay12 (k0_pay2 x5 x4) (k0_pay3 x5 x4) (k0_pay9 (k0_pay3 x5 x4) x7 x6) (k0_pay10 x8) (k0_pay11 (k0_pay3 x5 x4) x8))
      (iota .tc S512x64 32 [0] iota_S512x64_d0_w32) 8#32 k0_pay13 k0_pay14 = agg x4 x5 x6 x7 x8 := rfl
  unfold k0_pay20 k0_pay19
  simp only [hagg]
  pointwise [k0_pay29, k0_pay22, k0_pay16, k0_pay17, k0_pay25, k0_pay26, k0_pay27, k0_pay21, k0_pay24, k0_pay28, agg0 H, agg1 H, agg2 H, agg3 H, agg4 H, agg5 H, agg6 H, agg7 H, H.h1,
    Ideal.absf_def, pos_cast, prop_cell, err, dk, Spec.dist, tm]

/-- Whether the block's cell has a labelled target. -/
theorem exs_apply (r : Fin 8) (w : Fin 64) :
    k0_pay30 (agg x4 x5 x6 x7 x8)
      (k0_pay23 (agg x4 x5 x6 x7 x8) k0_pay18
        (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14))
      (k0_pay24 (agg x4 x5 x6 x7 x8)) (ix2 r w) = exs (gc tgt valid (cell t r w)) (lc label (cell t r w)) := by
  have hagg : k0_pay15 (k0_pay12 (k0_pay2 x5 x4) (k0_pay3 x5 x4) (k0_pay9 (k0_pay3 x5 x4) x7 x6) (k0_pay10 x8) (k0_pay11 (k0_pay3 x5 x4) x8))
      (iota .tc S512x64 32 [0] iota_S512x64_d0_w32) 8#32 k0_pay13 k0_pay14 = agg x4 x5 x6 x7 x8 := rfl
  unfold k0_pay19
  simp only [hagg]
  pointwise [k0_pay30, k0_pay23, k0_pay18, k0_pay24, k0_pay21, k0_pay28, agg0 H, agg2 H, agg4 H, agg6 H, sitofp_dec, exs]
  rw [← Nat.cast_add, ← Nat.cast_add, ← Nat.cast_add, ind_cast]

/-- The block's sum of the smooth matching errors. -/
theorem lane3 : k0_pay31 (agg x4 x5 x6 x7 x8) (k0_pay16 x1) (k0_pay22 (agg x4 x5 x6 x7 x8) (k0_pay16 x1) k0_pay17 (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14) (k0_pay20 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14 x1)) (k0_pay23 (agg x4 x5 x6 x7 x8) k0_pay18 (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14)) (k0_pay24 (agg x4 x5 x6 x7 x8)) (k0_pay25 (agg x4 x5 x6 x7 x8) (k0_pay16 x1)) (k0_pay26 (agg x4 x5 x6 x7 x8)) k0_pay27
    = ∑ r : Fin 8, ∑ w : Fin 64, f3 prop tgt valid label (cell t r w) := by
  pointwise [k0_pay31, err_apply H, exs_apply H, f3, f5, sl1]

/-- The block's sum of the matching errors. -/
theorem lane4 : k0_pay32 (agg x4 x5 x6 x7 x8) (k0_pay16 x1) (k0_pay22 (agg x4 x5 x6 x7 x8) (k0_pay16 x1) k0_pay17 (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14) (k0_pay20 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14 x1)) (k0_pay23 (agg x4 x5 x6 x7 x8) k0_pay18 (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14)) (k0_pay24 (agg x4 x5 x6 x7 x8)) (k0_pay25 (agg x4 x5 x6 x7 x8) (k0_pay16 x1)) (k0_pay26 (agg x4 x5 x6 x7 x8)) k0_pay27
    = ∑ r : Fin 8, ∑ w : Fin 64, f4 prop tgt valid label (cell t r w) := by
  pointwise [k0_pay32, err_apply H, exs_apply H, f4, f5]

/-- The block's count of cells with a label. -/
theorem lane5 : k0_pay34 (k0_pay33 (agg x4 x5 x6 x7 x8) (k0_pay23 (agg x4 x5 x6 x7 x8) k0_pay18 (k0_pay19 (k0_pay12 (k0_pay2 x5 x4) (k0_pay3 x5 x4) (k0_pay9 (k0_pay3 x5 x4) x7 x6) (k0_pay10 x8) (k0_pay11 (k0_pay3 x5 x4) x8)) (iota .tc S512x64 32 [0] iota_S512x64_d0_w32) 8#32 k0_pay13 k0_pay14)) (k0_pay24 (agg x4 x5 x6 x7 x8)))
    = ∑ r : Fin 8, ∑ w : Fin 64, f5 tgt valid label (cell t r w) := by
  pointwise [k0_pay33, k0_pay34, exs_apply H, f5]

/-! The accumulator's lanes after a point -/

variable (xo : Vec Ideal S1x128 .f32)

/-- Lane 0: the former value and the block's sum. -/
theorem step0 : step x0 x1 x2 x3 x4 x5 x6 x7 x8 xo (ix2 0 0) = xo (ix2 0 0) + ∑ r : Fin 64, ∑ w : Fin 512, f0 tgt valid (im t r w) := by
  unfold step
  rw [pay41_0, lane0 H]

/-- Lane 1: the former value and the block's sum. -/
theorem step1 : step x0 x1 x2 x3 x4 x5 x6 x7 x8 xo (ix2 0 1) = xo (ix2 0 1) + ∑ r : Fin 64, ∑ w : Fin 512, f1 dpred tgt valid (im t r w) := by
  unfold step
  rw [pay41_1, lane1 H]

/-- Lane 2: the former value and the block's sum. -/
theorem step2 : step x0 x1 x2 x3 x4 x5 x6 x7 x8 xo (ix2 0 2) = xo (ix2 0 2) + ∑ r : Fin 64, ∑ w : Fin 512, f2 disp tgt valid (im t r w) := by
  unfold step
  rw [pay41_2, lane2 H]

/-- Lane 3: the former value and the block's sum. -/
theorem step3 : step x0 x1 x2 x3 x4 x5 x6 x7 x8 xo (ix2 0 3) = xo (ix2 0 3) + ∑ r : Fin 8, ∑ w : Fin 64, f3 prop tgt valid label (cell t r w) := by
  unfold step
  rw [pay41_3, lane3 H]

/-- Lane 4: the former value and the block's sum. -/
theorem step4 : step x0 x1 x2 x3 x4 x5 x6 x7 x8 xo (ix2 0 4) = xo (ix2 0 4) + ∑ r : Fin 8, ∑ w : Fin 64, f4 prop tgt valid label (cell t r w) := by
  unfold step
  rw [pay41_4, lane4 H]

/-- Lane 5: the former value and the block's sum. -/
theorem step5 : step x0 x1 x2 x3 x4 x5 x6 x7 x8 xo (ix2 0 5) = xo (ix2 0 5) + ∑ r : Fin 8, ∑ w : Fin 64, f5 tgt valid label (cell t r w) := by
  unfold step
  rw [pay41_5, lane5 H]

/-- Lane 6: the former value and the block's sum. -/
theorem step6 : step x0 x1 x2 x3 x4 x5 x6 x7 x8 xo (ix2 0 6) = xo (ix2 0 6) + ∑ r : Fin 8, ∑ w : Fin 64, f6 prob tgt valid occ occ2 (cell t r w) := by
  unfold step
  rw [pay41_6, lane6 H]

/-- Lane 7: the former value and the block's sum. -/
theorem step7 : step x0 x1 x2 x3 x4 x5 x6 x7 x8 xo (ix2 0 7) = xo (ix2 0 7) + ∑ r : Fin 8, ∑ w : Fin 64, f7 tgt valid occ occ2 (cell t r w) := by
  unfold step
  rw [pay41_7, lane7 H]

end Cert.KLane

end
-- ==== Proof.KSum.lean ====
/-
  What the kernel's result array ends holding: lane `l` of the accumulator is the sum, over the 64 points, of the
  point's partial sums, hence the total over all pixels or all cells.
-/
module

public import proofs.«01_k».proof.Proof.KLane
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KSum

open Cert.KernelIdeal Cert.KernelIdeal.Gen Cert.KBlock Cert.Spec Cert.KLane

variable (m : (ℓ : Loc nD τ sig) → Buf (Elt Ideal) ℓ)

/-- The accumulator update of point `t`. -/
def upd (c : Dev nD) (t : Fin cfg0.N) (xo : Vec Ideal S1x128 .f32) : Vec Ideal S1x128 .f32 :=
  step (iblk m c 0 t) (iblk m c 1 t) (iblk m c 2 t) (iblk m c 3 t) (iblk m c 4 t) (iblk m c 5 t) (iblk m c 6 t)
    (iblk m c 7 t) (iblk m c 8 t) xo

/-- The accumulator after point `n`. -/
def chain (c : Dev nD) : (n : ℕ) → n < cfg0.N → Vec Ideal S1x128 .f32
  | 0, h => upd m c ⟨0, h⟩ (k0_pay1 (F := Ideal))
  | n + 1, h => upd m c ⟨n + 1, h⟩ (chain c n (Nat.lt_of_succ_lt h))

/-- The staging buffer of the result holds the accumulator. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 64 := N_0
    have hB : ¬(⟨n + 1, h⟩ : Fin cfg0.N).val % 64 = 0 := by dsimp only; omega
    rw [outsAt0_B m c ⟨n + 1, h⟩ hB, out_B]
    show upd m c ⟨n + 1, h⟩ (outsAt0 m c n _) = upd m c ⟨n + 1, h⟩ (chain m c n _)
    rw [outsAt_eq c n]

/-- The accumulator after the last point. -/
abbrev result (c : Dev nD) : Buf (Elt Ideal) ((c : Thread nD τ).loc main_v3) := chain m c 63 (by rw [show cfg0.N = 64 from N_0]; decide)

/-- The last point. -/
def t63 : Fin cfg0.N := ⟨63, by rw [show cfg0.N = 64 from N_0]; decide⟩

/-- The one write back, at the last point, writes the accumulator. -/
theorem flushed_eq (c : Dev nD) (t : Fin cfg0.N) (hf : (cfg0.win 9).flush t = true) :
    (dats m 0 c).flushed 9 t = ((cfg0.win 9).blk t).view.read (Elt Ideal) (result m c) := by
  have hN : cfg0.N = 64 := N_0
  have h3 : t.val = 63 := by have := (flush0_9 t).mp hf; have := t.isLt; omega
  obtain rfl : t = t63 := Fin.ext h3
  show (cfg0.win 9).cut (grid0.coords t63) ((dats m 0 c).after 9 t63) = _
  rw [after0_9, outsAt_eq]
  have hz' : (fun a => win0_9.index t63 a * main_v3.ty.shape.size a) = fun _ => 0 := funext fun a => by fin_cases a <;> decide
  exact (Memref.read_access_unit_zero (Elt Ideal) main_v3 hz' (fun a => by rw [congrFun hz' a]; simp) (result m c)).symm

/-- The result array ends holding the accumulator. -/
theorem final_o (c : Dev nD) : (dats m 0 c).arrAt 9 cfg0.N = result m c :=
  (dats m 0 c).arrAt_eq_of_cover 9 (result m c) (flushed_eq m c) fun i =>
    ⟨t63, (flush0_9 t63).mpr rfl, by
      show i ∈ ((View.whole main_v3).slice (win0_9.rect t63)).set
      rw [View.set_slice_whole, Rect.mem_set_unit]
      intro a
      have h0 : (i 0 : Nat) < 1 := (i 0).isLt
      have h1 : (i 1 : Nat) < 128 := (i 1).isLt
      match a with
      | ⟨0, _⟩ => show win0_9.index t63 0 * win0_9.size 0 ≤ (i 0 : Nat) ∧ (i 0 : Nat) < win0_9.index t63 0 * win0_9.size 0 + win0_9.xsize (grid0.coords t63) 0
                  rw [show win0_9.index t63 0 * win0_9.size 0 = 0 from by decide +kernel, show win0_9.xsize (grid0.coords t63) 0 = 1 from by decide +kernel]; omega
      | ⟨1, _⟩ => show win0_9.index t63 1 * win0_9.size 1 ≤ (i 1 : Nat) ∧ (i 1 : Nat) < win0_9.index t63 1 * win0_9.size 1 + win0_9.xsize (grid0.coords t63) 1
                  rw [show win0_9.index t63 1 * win0_9.size 1 = 0 from by decide +kernel, show win0_9.xsize (grid0.coords t63) 1 = 128 from by decide +kernel]; omega⟩

/-! The blocks are slices of the arguments -/

/-- Where the probabilities' window stands at a grid point. -/
theorem idx_a : ∀ t : Fin grid0.N, win0_0.index t 0 = t.val ∧ win0_0.index t 1 = 0 := by decide +kernel
/-- Where the proposals' window stands at a grid point. -/
theorem idx_b : ∀ t : Fin grid0.N, win0_1.index t 0 = t.val / 8 ∧ win0_1.index t 1 = t.val % 8 ∧ win0_1.index t 2 = 0 := by decide +kernel
/-- Where an image's window stands at a grid point. -/
theorem idx_c : ∀ t : Fin grid0.N, win0_2.index t 0 = t.val / 8 ∧ win0_2.index t 1 = t.val % 8 ∧ win0_2.index t 2 = 0 := by decide +kernel

/-- The first operand's block. -/
theorem blk0 (c : Dev nD) (t : Fin cfg0.N) (a : Fin 512) (k : Fin 40) :
    iblk m c 0 t (ix2 a k) = m ((c : Thread nD τ).loc main_arg0) (ix2 ⟨t.val * 512 + a.val, by have := t.isLt; have : cfg0.N = 64 := N_0; omega⟩ k) := by
  unfold iblk
  rw [View.read_apply]
  show V m c main_arg0 _ = _
  rw [V_main_arg0]
  congr 1
  funext x
  apply Fin.ext
  obtain ⟨h0, h1⟩ := idx_a t
  match x with
  | ⟨0, _⟩ => show win0_0.index t 0 * 512 + 1 * a.val = t.val * 512 + a.val; rw [h0]; omega
  | ⟨1, _⟩ => show win0_0.index t 1 * 40 + 1 * k.val = k.val; rw [h1]; omega

/-- The second operand's block. -/
theorem blk1 (c : Dev nD) (t : Fin cfg0.N) (a : Fin 512) (q : Fin 8) :
    iblk m c 1 t (ix3 0 a q) = m ((c : Thread nD τ).loc main_arg1)
      (ix3 ⟨t.val / 8, by have := t.isLt; have : cfg0.N = 64 := N_0; omega⟩ ⟨512 * (t.val % 8) + a.val, by omega⟩ q) := by
  unfold iblk
  rw [View.read_apply]
  show V m c main_arg1 _ = _
  rw [V_main_arg1]
  congr 1
  funext x
  apply Fin.ext
  obtain ⟨h0, h1, h2⟩ := idx_b t
  match x with
  | ⟨0, _⟩ => show win0_1.index t 0 * 1 + 1 * 0 = t.val / 8; rw [h0]; omega
  | ⟨1, _⟩ => show win0_1.index t 1 * 512 + 1 * a.val = 512 * (t.val % 8) + a.val; rw [h1]; omega
  | ⟨2, _⟩ => show win0_1.index t 2 * 8 + 1 * q.val = q.val; rw [h2]; omega

/-- The position an image block's element comes from. -/
theorem img_pos (t : Fin cfg0.N) (t' : Fin 64) (ht : t'.val = t.val) (r : Fin 64) (w : Fin 512) (i : S8x512x512.Idx)
    (h0 : (i 0).val = win0_2.index t 0 * 1 + 1 * 0) (h1 : (i 1).val = win0_2.index t 1 * 64 + 1 * r.val)
    (h2 : (i 2).val = win0_2.index t 2 * 512 + 1 * w.val) : i = im t' r w := by
  obtain ⟨e0, e1, e2⟩ := idx_c t
  funext x
  apply Fin.ext
  match x with
  | ⟨0, _⟩ => show (i 0).val = t'.val / 8; rw [h0, e0, ht]; omega
  | ⟨1, _⟩ => show (i 1).val = 64 * (t'.val % 8) + r.val; rw [h1, e1, ht]; omega
  | ⟨2, _⟩ => show (i 2).val = w.val; rw [h2, e2]; omega

/-- All nine blocks of a point, as slices of the arguments. -/
theorem blk_all (c : Dev nD) (t : Fin cfg0.N) (t' : Fin 64) (ht : t'.val = t.val) :
    Blk t' (iblk m c 0 t) (iblk m c 1 t) (iblk m c 2 t) (iblk m c 3 t) (iblk m c 4 t) (iblk m c 5 t) (iblk m c 6 t)
      (iblk m c 7 t) (iblk m c 8 t)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) where
  h0 a k := by
    rw [blk0]; congr 1; funext x; apply Fin.ext
    match x with
    | ⟨0, _⟩ => show t.val * 512 + a.val = t'.val * 512 + a.val; rw [ht]
    | ⟨1, _⟩ => rfl
  h1 a q := by
    rw [blk1]; congr 1; funext x; apply Fin.ext
    match x with
    | ⟨0, _⟩ => show t.val / 8 = t'.val / 8; rw [ht]
    | ⟨1, _⟩ => show 512 * (t.val % 8) + a.val = 512 * (t'.val % 8) + a.val; rw [ht]
    | ⟨2, _⟩ => rfl
  h2 r w := by
    unfold iblk; rw [View.read_apply]; show V m c main_arg2 _ = _; rw [V_main_arg2]
    exact congrArg _ (img_pos t t' ht r w _ rfl rfl rfl)
  h3 r w := by
    unfold iblk; rw [View.read_apply]; show V m c main_arg3 _ = _; rw [V_main_arg3]
    exact congrArg _ (img_pos t t' ht r w _ rfl rfl rfl)
  h4 r w := by
    unfold iblk; rw [View.read_apply]; show V m c main_arg4 _ = _; rw [V_main_arg4]
    exact congrArg _ (img_pos t t' ht r w _ rfl rfl rfl)
  h5 r w := by
    unfold iblk; rw [View.read_apply]; show V m c main_v0 _ = _; entry_read
    exact congrArg (fun i => BitVec.setWidth 32 (m ((c : Thread nD τ).loc main_arg5) i)) (img_pos t t' ht r w _ rfl rfl rfl)
  h6 r w := by
    unfold iblk; rw [View.read_apply]; show V m c main_v1 _ = _; entry_read
    exact congrArg (fun i => BitVec.setWidth 32 (m ((c : Thread nD τ).loc main_arg6) i)) (img_pos t t' ht r w _ rfl rfl rfl)
  h7 r w := by
    unfold iblk; rw [View.read_apply]; show V m c main_v2 _ = _; entry_read
    exact congrArg (fun i => BitVec.setWidth 32 (m ((c : Thread nD τ).loc main_arg7) i)) (img_pos t t' ht r w _ rfl rfl rfl)
  h8 r w := by
    unfold iblk; rw [View.read_apply]; show V m c main_arg8 _ = _; rw [V_main_arg8]
    exact congrArg _ (img_pos t t' ht r w _ rfl rfl rfl)

/-! The lanes -/

/-- A lane to which every point adds `L t` ends at the sum of the `L t`. -/
theorem lane_total (c : Dev nD) (j : S1x128.Idx) (L : Fin 64 → EReal)
    (hs : ∀ (t : Fin cfg0.N) (t' : Fin 64) (_ : t'.val = t.val) (xo : Vec Ideal S1x128 .f32), upd m c t xo j = xo j + L t') :
    result m c j = ∑ t, L t := by
  have hN : cfg0.N = 64 := N_0
  have key : ∀ (n : ℕ) (h : n < cfg0.N), chain m c n h j = ∑ s ∈ Finset.range (n + 1), (if h : s < 64 then L ⟨s, h⟩ else 0) := by
    intro n
    induction n with
    | zero =>
      intro h
      show upd m c ⟨0, h⟩ (k0_pay1 (F := Ideal)) j = _
      rw [hs ⟨0, h⟩ 0 rfl, show (k0_pay1 (F := Ideal)) j = 0 from Ideal.ofBits_zero .f32]
      simp
    | succ n ih =>
      intro h
      show upd m c ⟨n + 1, h⟩ (chain m c n _) j = _
      rw [hs ⟨n + 1, h⟩ ⟨n + 1, hN ▸ h⟩ rfl, ih, Finset.sum_range_succ _ (n + 1), dif_pos (hN ▸ h : n + 1 < 64)]
  show chain m c 63 _ j = _
  rw [key 63, ← Fin.sum_univ_eq_sum_range (fun s => if h : s < 64 then L ⟨s, h⟩ else 0) 64]
  exact Finset.sum_congr rfl fun t _ => dif_pos t.isLt

/-- The probabilities argument. -/
abbrev aProb (c : Dev nD) := m ((c : Thread nD τ).loc main_arg0)
/-- The proposals argument. -/
abbrev aProp (c : Dev nD) := m ((c : Thread nD τ).loc main_arg1)
/-- The disparity argument. -/
abbrev aDisp (c : Dev nD) := m ((c : Thread nD τ).loc main_arg2)
/-- The disparity prediction argument. -/
abbrev aPred (c : Dev nD) := m ((c : Thread nD τ).loc main_arg3)
/-- The target disparity argument. -/
abbrev aTgt (c : Dev nD) := m ((c : Thread nD τ).loc main_arg4)
/-- The validity mask argument. -/
abbrev aVal (c : Dev nD) := m ((c : Thread nD τ).loc main_arg5)
/-- The first occlusion mask argument. -/
abbrev aOcc (c : Dev nD) := m ((c : Thread nD τ).loc main_arg6)
/-- The second occlusion mask argument. -/
abbrev aOcc2 (c : Dev nD) := m ((c : Thread nD τ).loc main_arg7)
/-- The labels argument. -/
abbrev aLab (c : Dev nD) := m ((c : Thread nD τ).loc main_arg8)

section
variable (c : Dev nD)

/-- Lane 0 of the result array. -/
theorem res0 : result m c (ix2 0 0) = T0 (aTgt m c) (aVal m c) :=
  (lane_total m c _ _ fun t t' ht xo => step0 (blk_all m c t t' ht) xo).trans (sum_blocks _)
/-- Lane 1 of the result array. -/
theorem res1 : result m c (ix2 0 1) = T1 (aPred m c) (aTgt m c) (aVal m c) :=
  (lane_total m c _ _ fun t t' ht xo => step1 (blk_all m c t t' ht) xo).trans (sum_blocks _)
/-- Lane 2 of the result array. -/
theorem res2 : result m c (ix2 0 2) = T2 (aDisp m c) (aTgt m c) (aVal m c) :=
  (lane_total m c _ _ fun t t' ht xo => step2 (blk_all m c t t' ht) xo).trans (sum_blocks _)
/-- Lane 3 of the result array. -/
theorem res3 : result m c (ix2 0 3) = T3 (aProp m c) (aTgt m c) (aVal m c) (aLab m c) :=
  (lane_total m c _ _ fun t t' ht xo => step3 (blk_all m c t t' ht) xo).trans (sum_cells _)
/-- Lane 4 of the result array. -/
theorem res4 : result m c (ix2 0 4) = T4 (aProp m c) (aTgt m c) (aVal m c) (aLab m c) :=
  (lane_total m c _ _ fun t t' ht xo => step4 (blk_all m c t t' ht) xo).trans (sum_cells _)
/-- Lane 5 of the result array. -/
theorem res5 : result m c (ix2 0 5) = T5 (aTgt m c) (aVal m c) (aLab m c) :=
  (lane_total m c _ _ fun t t' ht xo => step5 (blk_all m c t t' ht) xo).trans (sum_cells _)
/-- Lane 6 of the result array. -/
theorem res6 : result m c (ix2 0 6) = T6 (aProb m c) (aTgt m c) (aVal m c) (aOcc m c) (aOcc2 m c) :=
  (lane_total m c _ _ fun t t' ht xo => step6 (blk_all m c t t' ht) xo).trans (sum_cells _)
/-- Lane 7 of the result array. -/
theorem res7 : result m c (ix2 0 7) = T7 (aTgt m c) (aVal m c) (aOcc m c) (aOcc2 m c) :=
  (lane_total m c _ _ fun t t' ht xo => step7 (blk_all m c t t' ht) xo).trans (sum_cells _)

end

end Cert.KSum

end
-- ==== Proof.KRes.lean ====
/-
  The kernel's five results: the quotients of the eight totals.
-/
module

public import proofs.«01_k».proof.Proof.KSum
public import proofs.«01_k».proof.Proof.Gen.KernelIdeal.Run
public import proofs.«01_k».proof.Proof.Gen.KernelIdeal.Read

@[expose] public section

set_option maxRecDepth 16384

noncomputable section

open Idealize.ShloMosaic Idealize.ShloMosaic.TcCoe Idealize.SL.Sem

namespace Cert.KRes

open Cert.KernelIdeal Cert.KernelIdeal.Read Cert.Spec Cert.KSum

section

variable (r : FVec Ideal S1x128 .f32)

/-- The first quotient of the accumulator's lanes. -/
theorem quot0 : val_main_v40 (F := Ideal) r (ix1 0) = Ideal.div (r (ix2 0 3)) (r (ix2 0 5) + Ideal.ofBits .f32 0x358637BD#32) := by
  pointwise [val_main_v40, val_main_v35, val_main_v5, val_main_v6, val_main_v7, val_main_v8, val_main_v9, val_main_v10, val_main_v4, val_main_cst]

/-- The second quotient of the accumulator's lanes. -/
theorem quot1 : val_main_v40 (F := Ideal) r (ix1 1) = Ideal.div (r (ix2 0 4)) (r (ix2 0 5) + Ideal.ofBits .f32 0x358637BD#32) := by
  pointwise [val_main_v40, val_main_v36, val_main_v11, val_main_v12, val_main_v13, val_main_v14, val_main_v15, val_main_v16, val_main_v4, val_main_cst_0]

/-- The third quotient of the accumulator's lanes. -/
theorem quot2 : val_main_v40 (F := Ideal) r (ix1 2) = Ideal.div (r (ix2 0 6)) (r (ix2 0 7) + Ideal.ofBits .f32 0x358637BD#32) := by
  pointwise [val_main_v40, val_main_v37, val_main_v17, val_main_v18, val_main_v19, val_main_v20, val_main_v21, val_main_v22, val_main_v4, val_main_cst_1]

/-- The fourth quotient of the accumulator's lanes. -/
theorem quot3 : val_main_v40 (F := Ideal) r (ix1 3) = Ideal.div (r (ix2 0 1)) (max (r (ix2 0 0)) 1) := by
  pointwise [val_main_v40, val_main_v38, val_main_v23, val_main_v24, val_main_v25, val_main_v26, val_main_v27, val_main_v28, val_main_v4, val_main_cst_2]

/-- The fifth quotient of the accumulator's lanes. -/
theorem quot4 : val_main_v40 (F := Ideal) r (ix1 4) = Ideal.div (r (ix2 0 2)) (max (r (ix2 0 0)) 1) := by
  pointwise [val_main_v40, val_main_v39, val_main_v29, val_main_v30, val_main_v31, val_main_v32, val_main_v33, val_main_v34, val_main_v4, val_main_cst_3]

end

variable (m : (ℓ : Loc nD τ sig) → Buf (Elt Ideal) ℓ) (c : Dev nD)

/-- The kernel's first result. -/
theorem kres0 : val_main_v40 (F := Ideal) (result m c) (ix1 0) = r1 (aProp m c) (aTgt m c) (aVal m c) (aLab m c) :=
  (quot0 _).trans (by rw [res3 m c, res5 m c]; rfl)

/-- The kernel's second result. -/
theorem kres1 : val_main_v40 (F := Ideal) (result m c) (ix1 1) = r2 (aProp m c) (aTgt m c) (aVal m c) (aLab m c) :=
  (quot1 _).trans (by rw [res4 m c, res5 m c]; rfl)

/-- The kernel's third result. -/
theorem kres2 : val_main_v40 (F := Ideal) (result m c) (ix1 2) = r3 (aProb m c) (aTgt m c) (aVal m c) (aOcc m c) (aOcc2 m c) :=
  (quot2 _).trans (by rw [res6 m c, res7 m c]; rfl)

/-- The kernel's fourth result. -/
theorem kres3 : val_main_v40 (F := Ideal) (result m c) (ix1 3) = r4 (aPred m c) (aTgt m c) (aVal m c) :=
  (quot3 _).trans (by rw [res1 m c, res0 m c]; rfl)

/-- The kernel's fifth result. -/
theorem kres4 : val_main_v40 (F := Ideal) (result m c) (ix1 4) = r5 (aDisp m c) (aTgt m c) (aVal m c) :=
  (quot4 _).trans (by rw [res2 m c, res0 m c]; rfl)

end Cert.KRes

end
-- ==== Proof.RefEnd.lean ====
/-
  The reference's last two results, the disparity loss and the end-point error: means over the pixels with a positive
  masked target. Counting lemmas shared by the other results come first.
-/
module

public import proofs.«01_k».proof.Proof.Spec
public import proofs.«01_k».proof.Proof.Consts
public import proofs.«01_k».proof.Proof.Gen.ReferenceIdeal.Read
public import Idealize.ShloMosaic.Lib.IndicatorCount

@[expose] public section

set_option maxRecDepth 16384

noncomputable section

open Idealize.ShloMosaic Idealize.ShloMosaic.TcCoe Idealize.SL.Sem
open scoped BigOperators

namespace Cert.RefEnd

open Cert.ReferenceIdeal Cert.ReferenceIdeal.Read Cert.Spec

/-- A word's count, cast to a float, is the count. -/
theorem sitofp_ofNat (n : ℕ) (h : n < 2 ^ 31) : (FloatOps.sitofp (F := Ideal) FTy.f32 (BitVec.ofNat 32 n) : EReal) = (n : EReal) := by
  show (((BitVec.ofNat 32 n).toInt : ℝ) : EReal) = _
  rw [WordCmp.toInt_ofNat_of_lt (w := 32) h]
  simp

/-- The larger of a count and one, cast to a float. -/
theorem sitofp_max (n : ℕ) (h : n < 2 ^ 31) :
    (FloatOps.sitofp (F := Ideal) FTy.f32 (IntOp.maxsi (BitVec.ofNat 32 n) 1#32) : EReal) = max (n : EReal) 1 := by
  have hm : IntOp.maxsi (BitVec.ofNat 32 n) 1#32 = BitVec.ofNat 32 (max n 1) := by
    apply BitVec.eq_of_toInt_eq
    rw [WordCmp.toInt_ofNat_of_lt (w := 32) (by omega : max n 1 < 2 ^ (32 - 1))]
    unfold IntOp.maxsi
    have h1 : (BitVec.ofNat 32 n).toInt = (n : Int) := WordCmp.toInt_ofNat_of_lt (w := 32) h
    have h2 : (1#32 : BitVec 32).toInt = 1 := by decide
    split_ifs with hc <;> rw [BitVec.slt_iff_toInt_lt] at hc <;> omega
  rw [hm, sitofp_ofNat _ (by omega)]
  rcases Nat.eq_zero_or_pos n with rfl | hn
  · simp
  · have e : max n 1 = n := by omega
    have : (1 : EReal) ≤ (n : EReal) := by exact_mod_cast hn
    rw [e, max_eq_left this]

/-- A sum of widened bits counts the set ones. -/
theorem fold_count {ι : Type} [Fintype ι] (p : ι → BitVec 1) (q : ι → Prop) [DecidablePred q] (h : ∀ i, p i = 1#1 ↔ q i) :
    Finset.univ.fold IntOp.addi 0#32 (fun i => BitVec.setWidth 32 (p i)) = BitVec.ofNat 32 (Finset.univ.filter q).card := by
  rw [IndicatorCount.fold_addi_setWidth_eq_card]
  congr 2
  ext i
  simp [h]

/-- A bit cast to a float. -/
theorem uitofp_bit (b : BitVec 1) : (FloatOps.uitofp (F := Ideal) FTy.f32 b : EReal) = if b = 1#1 then 1 else 0 := by
  show (((b.toNat : ℕ) : ℝ) : EReal) = _
  rcases BitVec.eq_zero_or_eq_one b with rfl | rfl <;> simp

/-- The masked target as the reference forms it. -/
theorem v0_eq (x4 : Img → EReal) (x5 : Img → BitVec 1) (i : Img) : val_main_v0 (F := Ideal) x4 x5 i = G x4 x5 i := by
  show Scalar.select (x5 i) (x4 i) (Ideal.ofBits .f32 0x00000000#32) = _
  rw [Ideal.ofBits_zero]
  rcases BitVec.eq_zero_or_eq_one (x5 i) with h | h <;> simp [G, h, Scalar.select]

/-- A masked target is below 1 when the targets are. -/
theorem G_lt (x4 : Img → EReal) (x5 : Img → BitVec 1) (h4 : ∀ i, x4 i < 1) (i : Img) : G x4 x5 i < 1 := by
  unfold G; split_ifs
  · exact h4 i
  · exact zero_lt_one

/-- One is below 320. -/
theorem one_lt_c320 : (1 : EReal) < Ideal.ofBits .f32 0x43A00000#32 := by
  rw [c320_val]; exact_mod_cast (by norm_num : (1 : ℝ) < 320)

/-- The number of pixels with a positive masked target. -/
def cnt (x4 : Img → EReal) (x5 : Img → BitVec 1) : ℕ :=
  (Finset.univ.filter fun k : Fin 8 × Fin 512 × Fin 512 => 0 < G x4 x5 (ix3 k.1 k.2.1 k.2.2)).card

/-- That number fits a signed word. -/
theorem cnt_lt (x4 : Img → EReal) (x5 : Img → BitVec 1) : cnt x4 x5 < 2 ^ 31 := by
  refine lt_of_le_of_lt (Finset.card_le_univ _) ?_
  simp [Fintype.card_prod]

/-- The total of the positive indicators is that number. -/
theorem T0_eq (x4 : Img → EReal) (x5 : Img → BitVec 1) : T0 x4 x5 = (cnt x4 x5 : EReal) := by
  unfold T0 imgSum cnt
  rw [← sum_ind, Fintype.sum_prod_type]
  refine Finset.sum_congr rfl fun b _ => ?_
  rw [Fintype.sum_prod_type]
  rfl

section

variable (x2 x3 x4 : Img → EReal) (x5 : Img → BitVec 1) (h4 : ∀ i, x4 i < 1)

include h4

/-- The mask of the disparity loss: the masked target is positive. -/
theorem v391_iff (b : Fin 8) (h w : Fin 512) : val_main_v391 (F := Ideal) x4 x5 (ix3 b h w) = 1#1 ↔ 0 < G x4 x5 (ix3 b h w) := by
  pointwise [val_main_v391, val_main_v388, val_main_v390, v0_eq, val_main_v389, val_main_v387, val_main_cst_107, val_main_cst_108]
  have := (G_lt x4 x5 h4 (ix3 b h w)).trans one_lt_c320
  rw [decide_eq_true this]
  by_cases hp : 0 < G x4 x5 (ix3 b h w) <;> simp [hp, IntOp.andi]

/-- The mask of the end-point error: the masked target is positive. -/
theorem v414_iff (b : Fin 8) (h w : Fin 512) : val_main_v414 (F := Ideal) x4 x5 (ix3 b h w) = 1#1 ↔ 0 < G x4 x5 (ix3 b h w) := by
  pointwise [val_main_v414, val_main_v411, val_main_v413, v0_eq, val_main_v412, val_main_v410, val_main_cst_115, val_main_cst_116]
  have := (G_lt x4 x5 h4 (ix3 b h w)).trans one_lt_c320
  rw [decide_eq_true this]
  by_cases hp : 0 < G x4 x5 (ix3 b h w) <;> simp [hp, IntOp.andi]

/-- The reference's disparity loss. -/
theorem ref4 (i : S_.Idx) : val_main_v409 (F := Ideal) x3 x4 x5 i = r4 x3 x4 x5 := by
  have hs : val_main_v404 (F := Ideal) x3 x4 x5 i = T1 x3 x4 x5 := by
    pointwise [val_main_v404, val_main_v403, val_main_v401, val_main_v400, val_main_v398, val_main_v397, val_main_v396, val_main_v395, val_main_v394, val_main_v393, val_main_v392, val_main_v386, val_main_v385, val_main_v399, val_main_v402, val_main_cst_112, val_main_cst_111, val_main_cst_110, val_main_cst_109, val_main_cst_106, v0_eq, uitofp_bit, v391_iff x4 x5 h4, Ideal.absf_def]
    rfl
  have hc : val_main_v406 (F := Ideal) x4 x5 i = BitVec.ofNat 32 (cnt x4 x5) := by
    pointwise [val_main_v406, val_main_v405, val_main_c_113]
    exact fold_count _ _ fun k => v391_iff x4 x5 h4 _ _ _
  pointwise [val_main_v409, val_main_v408, val_main_v407, val_main_c_114]
  rw [hs, hc, sitofp_max _ (cnt_lt x4 x5), r4, T0_eq]

/-- The reference's end-point error. -/
theorem ref5 (i : S_.Idx) : val_main_v424 (F := Ideal) x2 x4 x5 i = r5 x2 x4 x5 := by
  have hs : val_main_v419 (F := Ideal) x2 x4 x5 i = T2 x2 x4 x5 := by
    pointwise [val_main_v419, val_main_v418, val_main_v416, val_main_v415, val_main_v417, val_main_cst_117, v0_eq, uitofp_bit, v414_iff x4 x5 h4, Ideal.absf_def]
    rfl
  have hc : val_main_v421 (F := Ideal) x4 x5 i = BitVec.ofNat 32 (cnt x4 x5) := by
    pointwise [val_main_v421, val_main_v420, val_main_c_118]
    exact fold_count _ _ fun k => v414_iff x4 x5 h4 _ _ _
  pointwise [val_main_v424, val_main_v423, val_main_v422, val_main_c_119]
  rw [hs, hc, sitofp_max _ (cnt_lt x4 x5), r5, T0_eq]

end

end Cert.RefEnd

end
-- ==== Proof.RefGather.lean ====
/-
  The reference's reads along an axis and its accumulating scatter, at one element: a read along the last axis takes the
  element its index word names, and the scatter of a table of scalars by pairs of index words adds what lands.
-/
module

public import proofs.«01_k».proof.Proof.RefEnd
public import Idealize.ShloMosaic.Lib.Routing.OpsPair

@[expose] public section

set_option maxRecDepth 16384

noncomputable section

open Idealize.ShloMosaic Idealize.ShloMosaic.TcCoe Idealize.SL.Sem
open scoped BigOperators

namespace Cert.RefGather

open Cert.ReferenceIdeal

/-- A small word read as a signed number. -/
theorem toInt_small (c : ℕ) (h : c < 2 ^ 31) : (BitVec.ofNat 32 c).toInt.toNat = c := by
  rw [WordCmp.toInt_ofNat_of_lt (w := 32) h]; rfl

/-- The read along the columns of an image. -/
theorem gather3 {α : Type} (x : S8x512x512.Idx → α) (idx : IVec S8x512x512x1 32) (b : Fin 8) (h w c : Fin 512)
    (hc : idx (ix4 b h w 0) = BitVec.ofNat 32 c.val) :
    Host.gather gather_S8x512x512_S8x512x512x1_S8x512x512_n_2_01_01_2_3_111 x idx (ix3 b h w) = x (ix3 b h c) := by
  unfold Host.gather
  congr 1
  funext a
  apply Fin.ext
  match a with
  | ⟨0, _⟩ => show 0 + b.val + 0 = b.val; omega
  | ⟨1, _⟩ => show 0 + h.val + 0 = h.val; omega
  | ⟨2, _⟩ =>
    show min (idx _).toInt.toNat 511 + 0 + 0 = c.val
    rw [show idx _ = idx (ix4 b h w 0) from congrArg idx (by
      funext a; match a with | ⟨0, _⟩ => rfl | ⟨1, _⟩ => rfl | ⟨2, _⟩ => rfl | ⟨3, _⟩ => rfl), hc, toInt_small _ (by omega)]
    omega

/-- The read along the 8 proposals, one column of indices. -/
theorem gather8_1 {α : Type} (x : S32768x8.Idx → α) (idx : IVec S32768x1x1 32) (n : Fin 32768) (c : Fin 8)
    (hc : idx (ix3 n 0 0) = BitVec.ofNat 32 c.val) :
    Host.gather gather_S32768x8_S32768x1x1_S32768x1_n_1_0_0_1_2_11 x idx (ix2 n 0) = x (ix2 n c) := by
  unfold Host.gather
  congr 1
  funext a
  apply Fin.ext
  match a with
  | ⟨0, _⟩ => show 0 + n.val + 0 = n.val; omega
  | ⟨1, _⟩ =>
    show min (idx _).toInt.toNat 7 + 0 + 0 = c.val
    rw [show idx _ = idx (ix3 n 0 0) from congrArg idx (by
      funext a; match a with | ⟨0, _⟩ => rfl | ⟨1, _⟩ => rfl | ⟨2, _⟩ => rfl), hc, toInt_small _ (by omega)]
    omega

/-- The read along the 8 proposals, four columns of indices. -/
theorem gather8_4 {α : Type} (x : S32768x8.Idx → α) (idx : IVec S32768x4x1 32) (n : Fin 32768) (k : Fin 4) (c : Fin 8)
    (hc : idx (ix3 n k 0) = BitVec.ofNat 32 c.val) :
    Host.gather gather_S32768x8_S32768x4x1_S32768x4_n_1_0_0_1_2_11 x idx (ix2 n k) = x (ix2 n c) := by
  unfold Host.gather
  congr 1
  funext a
  apply Fin.ext
  match a with
  | ⟨0, _⟩ => show 0 + n.val + 0 = n.val; omega
  | ⟨1, _⟩ =>
    show min (idx _).toInt.toNat 7 + 0 + 0 = c.val
    rw [show idx _ = idx (ix3 n k 0) from congrArg idx (by
      funext a; match a with | ⟨0, _⟩ => rfl | ⟨1, _⟩ => rfl | ⟨2, _⟩ => rfl), hc, toInt_small _ (by omega)]
    omega

/-- Two spellings of an index of rank 2. -/
theorem vix2 {a b : ℕ} (i : Fin a) (j : Fin b) : ValueIdx.ix2 i j = ix2 i j :=
  funext fun x => by match x with | ⟨0, _⟩ => rfl | ⟨1, _⟩ => rfl

/-- Two spellings of an index of rank 3. -/
theorem vix3 {a b c : ℕ} (i : Fin a) (j : Fin b) (k : Fin c) : ValueIdx.ix3 i j k = ix3 i j k :=
  funext fun x => by match x with | ⟨0, _⟩ => rfl | ⟨1, _⟩ => rfl | ⟨2, _⟩ => rfl

/-- The accumulating scatter whose row words are the row numbers and whose column words are all the word of `c`: column
    `c` gains the sum of its row's updates, the other columns nothing. -/
theorem scatter_rows (x : FVec Ideal S32768x40 .f32) (idx : IVec S32768x64x2 32) (upd : FVec Ideal S32768x64 .f32) (c : Fin 40)
    (h0 : ∀ (n : Fin 32768) (p : Fin 64), idx (ix3 n p 0) = BitVec.ofNat 32 n.val)
    (h1 : ∀ (n : Fin 32768) (p : Fin 64), idx (ix3 n p 1) = BitVec.ofNat 32 c.val) (n : Fin 32768) (k : Fin 40) :
    (Host.scatterAdd scatter_S32768x40_S32768x64x2_S32768x64_n_01_01_2 x idx upd (ix2 n k) : EReal)
      = x (ix2 n k) + if k = c then ∑ p : Fin 64, upd (ix2 n p) else 0 := by
  unfold Host.scatterAdd
  rw [Ideal.hostScatterAdd_def]
  unfold Ideal.hostScatterAdd
  refine congrArg (fun e : EReal => x (ix2 n k) + e) ?_
  have hl : ∀ (a : Fin 32768) (b : Fin 64),
      (scatter_S32768x40_S32768x64x2_S32768x64_n_01_01_2.resultIdx? (ix2 a b) idx = some (ix2 n k)) ↔ a = n ∧ k = c := by
    intro a b
    have l := Routing.scatter_lands2 scatter_S32768x40_S32768x64x2_S32768x64_n_01_01_2 rfl rfl rfl idx a b n k
    rw [vix2, vix2, vix3, vix3, h0, h1] at l
    rw [l, WordCmp.toInt_ofNat_of_lt (w := 32) (by omega),
      WordCmp.toInt_ofNat_of_lt (w := 32) (by omega)]
    constructor
    · rintro ⟨e1, e2⟩; exact ⟨Fin.ext (by omega), Fin.ext (by omega)⟩
    · rintro ⟨rfl, rfl⟩; exact ⟨rfl, rfl⟩
  rw [Finset.sum_filter, sum_idx2]
  simp only [hl]
  by_cases hk : k = c
  · simp only [hk, and_true, if_true]
    rw [Finset.sum_eq_single n]
    · simp
    · intro a _ ha; simp [ha]
    · intro h; exact absurd (Finset.mem_univ _) h
  · simp [hk]

end Cert.RefGather

end
-- ==== Proof.RefInit.lean ====
/-
  The reference's initial loss up to its per-cell tables: which pixels take part, and the two label columns a cell's
  pixels feed.
-/
module

public import proofs.«01_k».proof.Proof.RefGather

@[expose] public section

set_option maxRecDepth 16384

noncomputable section

open Idealize.ShloMosaic Idealize.ShloMosaic.TcCoe Idealize.SL.Sem
open scoped BigOperators

namespace Cert.RefInit

open Cert.ReferenceIdeal Cert.ReferenceIdeal.Read Cert.Spec Cert.RefEnd Cert.RefGather

/-- A natural number below `2 ^ 31`, read as a word. -/
theorem fptosi_nat (n : ℕ) (h : n < 2 ^ 31) : Ideal.fptosi 32 ((n : ℝ) : EReal) = BitVec.ofNat 32 n := by
  unfold Ideal.fptosi
  have e : Ideal.toIntClamped (-(2 ^ (32 - 1) : Nat)) ((2 ^ (32 - 1) : Nat) - 1) ((n : ℝ) : EReal) = (n : ℤ) := by
    show max _ (min _ (if (0 : ℝ) ≤ (n : ℝ) then ⌊(n : ℝ)⌋ else _)) = _
    rw [if_pos (Nat.cast_nonneg n), Int.floor_natCast]
    omega
  rw [e]
  simp

/-- The column a pixel's target points to: the pixel's own column less the target, rounded down. -/
theorem col_word (w : ℕ) (hw : w < 512) (r : ℝ) (h0 : 0 ≤ r) (h1 : r < 1) :
    Ideal.fptosi 32 (max (0 : EReal) (Ideal.liftRound Int.floor ((w : EReal) - (r : EReal))))
      = BitVec.ofNat 32 (if 0 < r then w - 1 else w) := by
  have e : ((w : EReal) - (r : EReal)) = (((w : ℝ) - r : ℝ) : EReal) := by push_cast; rfl
  rw [e, Ideal.liftRound_coe]
  have hn : max (0 : EReal) (((⌊(w : ℝ) - r⌋ : ℤ) : ℝ) : EReal) = (((if 0 < r then w - 1 else w : ℕ) : ℝ) : EReal) := by
    split_ifs with hr
    · have hf : ⌊(w : ℝ) - r⌋ = (w : ℤ) - 1 := by
        rw [Int.floor_eq_iff]; push_cast; constructor <;> linarith
      rw [hf]
      rcases Nat.eq_zero_or_pos w with rfl | hp
      · simp
      · have : (((w : ℤ) - 1 : ℤ) : ℝ) = ((w - 1 : ℕ) : ℝ) := by
          rw [Nat.cast_sub hp]; push_cast; ring
        rw [this]
        exact max_eq_right (by exact_mod_cast Nat.zero_le _)
    · have hr0 : r = 0 := le_antisymm (not_lt.mp hr) h0
      subst hr0
      rw [sub_zero, Int.floor_natCast]
      exact max_eq_right (by exact_mod_cast Nat.zero_le _)
  rw [hn]
  exact fptosi_nat _ (by split_ifs <;> omega)

/-- A column number is in range as the program tests it. -/
theorem in_range : ∀ c : Fin 512, IntOp.andi (IntOp.cmpi CmpIPredicate.sge (BitVec.ofNat 32 c.val) 0#32)
    (IntOp.cmpi CmpIPredicate.sle (BitVec.ofNat 32 c.val) 511#32) = 1#1 := by decide +kernel

/-- The conjunction of set bits is set. -/
theorem fold_one {ι : Type} (S : Finset ι) : S.fold IntOp.andi (1#1) (fun _ => 1#1) = 1#1 := by
  classical
  induction S using Finset.induction_on with
  | empty => rfl
  | insert a S ha ih => rw [Finset.fold_insert ha, ih]; rfl

/-- The pixel a cell's position is, as the reference's reshapes spell it. -/
theorem px_eq (n : Fin 32768) (p : Fin 64) (h1 : n.val / 4096 < 8) (h2 : n.val / 64 % 64 * 8 + p.val / 8 < 512)
    (h3 : n.val % 64 * 8 + p.val % 8 < 512) :
    (ix3 ⟨n.val / 4096, h1⟩ ⟨n.val / 64 % 64 * 8 + p.val / 8, h2⟩ ⟨n.val % 64 * 8 + p.val % 8, h3⟩ : Img) = px n p := by
  unfold px
  congr 1 <;> exact Fin.ext (by simp only []; omega)

variable (x4 : Img → EReal) (x5 x6 x7 : Img → BitVec 1)

/-- The target clipped at 0. -/
theorem v279_eq (i : Img) : val_main_v279 (F := Ideal) x4 x5 i = max 0 (G x4 x5 i) := by
  show max (Ideal.ofBits .f32 0x00000000#32) (val_main_v0 (F := Ideal) x4 x5 i) = _
  rw [Ideal.ofBits_zero, v0_eq]

variable (h4 : ∀ i, x4 i < 1)

include h4

/-- The clipped target is a real number in [0, 1). -/
theorem hx (i : Img) : ∃ r : ℝ, 0 ≤ r ∧ r < 1 ∧ max 0 (G x4 x5 i) = (r : EReal) ∧ (0 < G x4 x5 i ↔ 0 < r) := by
  have hlt := G_lt x4 x5 h4 i
  generalize G x4 x5 i = g at *
  have hm : max 0 g < 1 := max_lt zero_lt_one hlt
  have hm0 : (0 : EReal) ≤ max 0 g := le_max_left _ _
  have hp : 0 < g ↔ 0 < max 0 g := by simp
  rw [hp]
  generalize max 0 g = y at *
  induction y with
  | bot => simp at hm0
  | top => simp at hm
  | coe r => exact ⟨r, by exact_mod_cast hm0, by exact_mod_cast hm, rfl, by exact_mod_cast Iff.rfl⟩

/-- The column word of a pixel. -/
theorem v297_eq (b : Fin 8) (h w : Fin 512) : val_main_v297 (F := Ideal) x4 x5 (ix3 b h w)
    = BitVec.ofNat 32 (if 0 < G x4 x5 (ix3 b h w) then w.val - 1 else w.val) := by
  obtain ⟨r, h0, h1, he, hp⟩ := hx x4 x5 h4 (ix3 b h w)
  pointwise [val_main_v297, val_main_v296, val_main_v295, val_main_v291, val_main_v290, val_main_v289, val_main_v288, val_main_v287, v279_eq, val_main_call36_v1, val_main_call36_v0, val_main_c_79]
  rw [he, sitofp_ofNat 0 (by omega), sitofp_ofNat w.val (by omega), Nat.cast_zero]
  refine (col_word w.val w.isLt r h0 h1).trans ?_
  simp only [hp]

/-- The other view's occlusion mask at that column. -/
theorem v299_eq (b : Fin 8) (h w : Fin 512) (c : Fin 512) (hc : c.val = if 0 < G x4 x5 (ix3 b h w) then w.val - 1 else w.val) :
    val_main_v299 (F := Ideal) x4 x5 x7 (ix3 b h w) = ~~~ (x7 (ix3 b h c)) := by
  have hw : val_main_v297 (F := Ideal) x4 x5 (ix3 b h w) = BitVec.ofNat 32 c.val := by rw [v297_eq x4 x5 h4, hc]
  have hs : val_main_call37_v4 (F := Ideal) x4 x5 (ix3 b h w) = BitVec.ofNat 32 c.val := by
    pointwise [val_main_call37_v4, val_main_call37_v3, val_main_call37_v2, val_main_call37_v1, val_main_call37_v0, val_main_call37_c, val_main_call37_c_0, hw]
    exact Routing.wrap_of_lt _ _ (by rw [BitVec.toNat_ofNat]; have := c.isLt; omega)
  have hg : val_main_call37_v13 (F := Ideal) x4 x5 x7 (ix3 b h w) = ~~~ (x7 (ix3 b h c)) := by
    unfold val_main_call37_v13
    rw [gather3 _ _ b h w c (by pointwise [val_main_call37_v5, hs])]
    rfl
  have hv : val_main_call37_v12 (F := Ideal) x4 x5 (ix3 b h w) = 1#1 := by
    pointwise [val_main_call37_v12, val_main_call37_v11, val_main_call37_v10, val_main_call37_v7, val_main_call37_v6,val_main_call37_v9, val_main_call37_v8, val_main_call37_c_1, val_main_call37_c_2, val_main_call37_c_3, val_main_call37_v5, hs]
    rw [in_range c]
    exact fold_one _
  pointwise [val_main_v299, hg, hv]

/-- Whether a pixel takes part. -/
theorem v300_eq (b : Fin 8) (h w : Fin 512) :
    val_main_v300 (F := Ideal) x4 x5 x6 x7 (ix3 b h w) = BitVec.ofBool (vi x4 x5 x6 x7 (ix3 b h w)) := by
  obtain ⟨r, h0, h1, he, hp⟩ := hx x4 x5 h4 (ix3 b h w)
  have h8 := v299_eq x4 x5 x7 h4 b h w ⟨if 0 < G x4 x5 (ix3 b h w) then w.val - 1 else w.val, by split_ifs <;> omega⟩ rfl
  pointwise [val_main_v300, val_main_v294, val_main_v293, val_main_v292, val_main_v291, val_main_v290, val_main_v289, val_main_v288, val_main_v287, val_main_v286, val_main_v285, val_main_v284, val_main_v283, val_main_v282, val_main_v281, val_main_v280, v279_eq, val_main_cst_76, val_main_cst_77, val_main_cst_78, h8]
  rw [decide_eq_true ((max_lt zero_lt_one (G_lt x4 x5 h4 (ix3 b h w))).trans one_lt_c320), sitofp_ofNat _ (by omega)]
  by_cases hG : 0 < G x4 x5 (ix3 b h w)
  · have hr := hp.mp hG
    have e1 : decide (0 < max 0 (G x4 x5 (ix3 b h w))) = true := by simpa using hG
    have e2 : (0 ≤ ((w.val : ℕ) : EReal) - max 0 (G x4 x5 (ix3 b h w))) ↔ 1 ≤ w.val := by
      rw [he, show ((w.val : EReal) - (r : EReal)) = (((w.val : ℝ) - r : ℝ) : EReal) from by push_cast; rfl]
      constructor
      · intro hh
        have h' : (0 : ℝ) ≤ (w.val : ℝ) - r := by exact_mod_cast hh
        by_contra hc
        have h0' : w.val = 0 := by omega
        rw [h0'] at h'; simp at h'; linarith
      · intro hh
        have h' : (1 : ℝ) ≤ (w.val : ℝ) := by exact_mod_cast hh
        exact_mod_cast (by linarith : (0 : ℝ) ≤ (w.val : ℝ) - r)
    rw [e1]
    simp only [e2, hG, if_true]
    rw [show vi x4 x5 x6 x7 (ix3 b h w) = decide (0 < G x4 x5 (ix3 b h w) ∧ x6 (ix3 b h w) = 0#1 ∧ 1 ≤ w.val
      ∧ x7 (ix3 b h ⟨w.val - 1, by omega⟩) = 0#1) from rfl]
    generalize x7 (ix3 b h ⟨w.val - 1, _⟩) = q7
    generalize x6 (ix3 b h w) = q6
    rcases BitVec.eq_zero_or_eq_one q6 with rfl | rfl <;> rcases BitVec.eq_zero_or_eq_one q7 with rfl | rfl <;>
      by_cases hw : 1 ≤ w.val <;> simp [hG, hw, IntOp.andi]
  · have e1 : decide (0 < max 0 (G x4 x5 (ix3 b h w))) = false := by simpa using hG
    rw [e1, show vi x4 x5 x6 x7 (ix3 b h w) = false from by unfold vi; simp [hG]]
    simp [IntOp.andi]

/-- The clipped target, in cells, divided by eight. -/
theorem v306_eq (n : Fin 32768) (p : Fin 64) :
    val_main_v306 (F := Ideal) x4 x5 (ix2 n p) = Ideal.div (max 0 (gc x4 x5 n p)) (Ideal.ofBits .f32 0x41000000#32) := by
  pointwise [val_main_v306, val_main_v305, val_main_v304, val_main_v302, val_main_v301, val_main_cst_80, v279_eq, px_eq]

/-- The validity of a cell's position. -/
theorem v300_px (n : Fin 32768) (p : Fin 64) :
    val_main_v300 (F := Ideal) x4 x5 x6 x7 (px n p) = BitVec.ofBool (vc x4 x5 x6 x7 n p) := v300_eq x4 x5 x6 x7 h4 _ _ _

/-- The weights, in cells. -/
theorem v309_eq (n : Fin 32768) (p : Fin 64) :
    val_main_v309 (F := Ideal) x4 x5 x6 x7 (ix2 n p) = if vc x4 x5 x6 x7 n p = true then 1 else 0 := by
  pointwise [val_main_v309, val_main_v308, val_main_v307, val_main_v303, val_main_call38_v0, val_main_call38_v1, val_main_cst_81, val_main_cst_82, px_eq]
  rw [v300_px x4 x5 x6 x7 h4]
  cases vc x4 x5 x6 x7 n p <;> simp [Scalar.select]

/-- The mask as floats, in cells. -/
theorem v313_eq (n : Fin 32768) (p : Fin 64) :
    val_main_v313 (F := Ideal) x4 x5 x6 x7 (ix2 n p) = if vc x4 x5 x6 x7 n p = true then 1 else 0 := by
  pointwise [val_main_v313, val_main_v312, val_main_v311, val_main_v310, uitofp_bit, px_eq]
  rw [v300_px x4 x5 x6 x7 h4]
  cases vc x4 x5 x6 x7 n p <;> simp

end Cert.RefInit

end
-- ==== Proof.InitAlg.lean ====
/-
  The algebra of the initial loss: minus the sum of the two weighted logarithms is the cell's term.
-/
module

public import proofs.«01_k».proof.Proof.Spec
public import proofs.«01_k».proof.Proof.Consts

@[expose] public section

noncomputable section

open Idealize.ShloMosaic
open scoped BigOperators

namespace Cert.InitAlg

open Cert.Spec

/-- A sum of reals, read as extended reals. -/
theorem sum_real {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The logarithm of a number at least a positive real is a real number or infinity. -/
theorem log_cases (x : EReal) (c : ℝ) (hc : 0 < c) (h : (c : EReal) ≤ x) :
    Ideal.log x = ⊤ ∨ ∃ r : ℝ, Ideal.log x = (r : EReal) := by
  induction x using EReal.rec with
  | bot => exact absurd h (by simp)
  | top => left; rfl
  | coe r =>
    right
    have h' : c ≤ r := by exact_mod_cast h
    exact ⟨Real.log r, by rw [Ideal.log_coe, if_neg (by linarith)]⟩

/-- Two non-negative reals times logarithms that are not minus infinity. -/
theorem neg_pair (L0 L1 : EReal) (h0 : L0 = ⊤ ∨ ∃ r : ℝ, L0 = (r : EReal)) (h1 : L1 = ⊤ ∨ ∃ r : ℝ, L1 = (r : EReal))
    (A B M : ℝ) (hA : 0 < A) (hB : 0 < B) (hM : 0 < M) :
    Ideal.div ((0 - 1) * (L0 * (A : EReal) + L1 * (B : EReal))) (M : EReal)
      = -(L0 * ((A / M : ℝ) : EReal) + L1 * ((B / M : ℝ) : EReal))
    ∧ L0 * ((A / M : ℝ) : EReal) + L1 * ((B / M : ℝ) : EReal) ≠ ⊥ := by
  have hA' : 0 < A / M := div_pos hA hM
  have hB' : 0 < B / M := div_pos hB hM
  have hM' : 0 < 1 / M := one_div_pos.mpr hM
  have m1 : ((0 : EReal) - 1) = ((-1 : ℝ) : EReal) := by simp
  rw [Ideal.div_coe hM.ne', m1]
  rcases h0 with rfl | ⟨r, rfl⟩ <;> rcases h1 with rfl | ⟨s, rfl⟩
  · rw [EReal.top_mul_coe_of_pos hA, EReal.top_mul_coe_of_pos hB, EReal.top_mul_coe_of_pos hA', EReal.top_mul_coe_of_pos hB',
      EReal.top_add_top, EReal.coe_mul_top_of_neg (by norm_num), EReal.bot_mul_coe_of_pos hM']
    simp
  · rw [EReal.top_mul_coe_of_pos hA, EReal.top_mul_coe_of_pos hA', ← EReal.coe_mul, ← EReal.coe_mul, EReal.top_add_coe, EReal.top_add_coe,
      EReal.coe_mul_top_of_neg (by norm_num), EReal.bot_mul_coe_of_pos hM']
    simp
  · rw [EReal.top_mul_coe_of_pos hB, EReal.top_mul_coe_of_pos hB', ← EReal.coe_mul, ← EReal.coe_mul, EReal.coe_add_top, EReal.coe_add_top,
      EReal.coe_mul_top_of_neg (by norm_num), EReal.bot_mul_coe_of_pos hM']
    simp
  · refine ⟨?_, ?_⟩
    · rw [← EReal.coe_mul, ← EReal.coe_mul, ← EReal.coe_mul, ← EReal.coe_mul, ← EReal.coe_add, ← EReal.coe_add, ← EReal.coe_mul,
        ← EReal.coe_mul, ← EReal.coe_neg]
      congr 1
      field_simp
      try ring
    · rw [← EReal.coe_mul, ← EReal.coe_mul, ← EReal.coe_add]
      exact EReal.coe_ne_bot _

/-- The negation of a sum without minus infinity is the sum of the negations. -/
theorem neg_sum {ι : Type} [Fintype ι] (f : ι → EReal) (h : ∀ i, f i ≠ ⊥) : -(∑ i, f i) = ∑ i, -f i := by
  classical
  have key : ∀ s : Finset ι, (∑ i ∈ s, f i) ≠ ⊥ ∧ -(∑ i ∈ s, f i) = ∑ i ∈ s, -f i := by
    intro s
    induction s using Finset.induction_on with
    | empty => simp
    | insert a s ha ih =>
      rw [Finset.sum_insert ha, Finset.sum_insert ha, ← ih.2]
      refine ⟨?_, ?_⟩
      · rw [Ne, EReal.add_eq_bot_iff, not_or]; exact ⟨h a, ih.1⟩
      · rw [EReal.neg_add (Or.inl (h a)) (Or.inr ih.1), sub_eq_add_neg]
  exact (key Finset.univ).2

section Cell

variable (v : Fin 64 → Bool) (g : Fin 64 → EReal)

/-- The real value of a taking-part target, 0 elsewhere. -/
def rho (p : Fin 64) : ℝ := if v p = true then (g p).toReal else 0
/-- The total of the targets and their number, as reals. -/
def S : ℝ := ∑ p, rho v g p
/-- The number of a cell's positions that take part, as a real. -/
def N : ℝ := (nv v : ℝ)

variable (hg : ∀ p, v p = true → ∃ r : ℝ, 0 < r ∧ r < 1 ∧ g p = (r : EReal))

/-- Ones summed over those positions count them. -/
theorem one_sum (v : Fin 64 → Bool) : (∑ p : Fin 64, if v p = true then (1 : ℝ) else 0) = N v := by
  rw [← Finset.sum_filter, Finset.sum_const, nsmul_one]; rfl

include hg

/-- The sum of the targets at those positions is a real number. -/
theorem sv_real : sv v g = ((S v g : ℝ) : EReal) := by
  unfold sv S
  rw [← sum_real]
  refine Finset.sum_congr rfl fun p _ => ?_
  unfold rho
  by_cases hv : v p = true
  · obtain ⟨r, _, _, e⟩ := hg p hv
    rw [if_pos hv, if_pos hv, e, EReal.toReal_coe]
  · rw [if_neg hv, if_neg hv]; rfl

/-- A position's masked target, as a real, lies between 0 and the mask, and is positive where the mask is set. -/
theorem rho_bounds (p : Fin 64) : 0 ≤ rho v g p ∧ rho v g p ≤ (if v p = true then 1 else 0) ∧ (v p = true → 0 < rho v g p) := by
  unfold rho
  by_cases hv : v p = true
  · obtain ⟨r, h0, h1, e⟩ := hg p hv
    simp only [hv, if_true, e, EReal.toReal_coe]
    exact ⟨h0.le, h1.le, fun _ => h0⟩
  · simp [hv]

/-- The share of the first column. -/
theorem sum_first : (∑ p : Fin 64, (1 - Ideal.div (max 0 (g p)) (Ideal.ofBits .f32 0x41000000#32)) * (if v p = true then 1 else 0))
    = ((N v - S v g / 8 : ℝ) : EReal) := by
  have e : N v - S v g / 8 = ∑ p : Fin 64, ((if v p = true then (1 : ℝ) else 0) - rho v g p / 8) := by
    rw [Finset.sum_sub_distrib, one_sum, ← Finset.sum_div]; rfl
  rw [e, ← sum_real]
  refine Finset.sum_congr rfl fun p _ => ?_
  unfold rho
  by_cases hv : v p = true
  · obtain ⟨r, h0, h1, e⟩ := hg p hv
    have e2 : max (0 : EReal) (r : EReal) = (r : EReal) := max_eq_right (by exact_mod_cast h0.le)
    rw [if_pos hv, if_pos hv, if_pos hv, e, e2, EReal.toReal_coe, c8_val, Ideal.div_coe (by norm_num), mul_one, ← EReal.coe_mul, ← EReal.coe_one,
      ← EReal.coe_sub]
    congr 1; ring
  · rw [if_neg hv, if_neg hv, if_neg hv, mul_zero]; simp

/-- The share of the second column. -/
theorem sum_second : (∑ p : Fin 64, Ideal.div (max 0 (g p)) (Ideal.ofBits .f32 0x41000000#32) * (if v p = true then 1 else 0))
    = ((S v g / 8 : ℝ) : EReal) := by
  have e : S v g / 8 = ∑ p : Fin 64, rho v g p / 8 := by
    rw [← Finset.sum_div]; rfl
  rw [e, ← sum_real]
  refine Finset.sum_congr rfl fun p _ => ?_
  unfold rho
  by_cases hv : v p = true
  · obtain ⟨r, h0, h1, e⟩ := hg p hv
    have e2 : max (0 : EReal) (r : EReal) = (r : EReal) := max_eq_right (by exact_mod_cast h0.le)
    rw [if_pos hv, if_pos hv, e, e2, EReal.toReal_coe, c8_val, Ideal.div_coe (by norm_num), mul_one, ← EReal.coe_mul]
    congr 1; ring
  · rw [if_neg hv, if_neg hv, mul_zero]; simp

/-- The sum of the masked targets lies between 0 and the number of positions, and is positive where there is one. -/
theorem S_bounds : 0 ≤ S v g ∧ S v g ≤ N v ∧ (0 < nv v → 0 < S v g) := by
  refine ⟨Finset.sum_nonneg fun p _ => (rho_bounds v g hg p).1, ?_, ?_⟩
  · rw [← one_sum]; exact Finset.sum_le_sum fun p _ => (rho_bounds v g hg p).2.1
  · intro h
    obtain ⟨p, hp⟩ := Finset.card_pos.mp h
    exact Finset.sum_pos' (fun p _ => (rho_bounds v g hg p).1) ⟨p, Finset.mem_univ _, (rho_bounds v g hg p).2.2 (Finset.mem_filter.mp hp).2⟩

/-- A cell's row of the reference's table, normalised and weighted by the logarithms, sums to minus the cell's term. -/
theorem cell_term (q : Fin 40 → EReal) (col : Fin 40 → EReal)
    (hcol : ∀ k, col k = (if k = 0 then ((N v - S v g / 8 : ℝ) : EReal) else 0) + (if k = 1 then ((S v g / 8 : ℝ) : EReal) else 0)) :
    (-(∑ k, if 0 < Ideal.div (col k) (max (Ideal.ofBits .f32 0x3A83126F#32) (∑ j, col j))
        then Ideal.log (max (Ideal.ofBits .f32 0x358637BD#32) (q k)) * Ideal.div (col k) (max (Ideal.ofBits .f32 0x3A83126F#32) (∑ j, col j)) else 0)
      = lp v g (q 0) (q 1))
    ∧ (∑ k, if 0 < Ideal.div (col k) (max (Ideal.ofBits .f32 0x3A83126F#32) (∑ j, col j))
        then Ideal.log (max (Ideal.ofBits .f32 0x358637BD#32) (q k)) * Ideal.div (col k) (max (Ideal.ofBits .f32 0x3A83126F#32) (∑ j, col j)) else 0) ≠ ⊥ := by
  obtain ⟨hS0, hSN, hSp⟩ := S_bounds v g hg
  have c0 : col 0 = ((N v - S v g / 8 : ℝ) : EReal) := by rw [hcol]; simp
  have c1 : col 1 = ((S v g / 8 : ℝ) : EReal) := by rw [hcol]; simp
  have cz : ∀ k, k ≠ 0 → k ≠ 1 → col k = 0 := by intro k h h'; rw [hcol, if_neg h, if_neg h']; simp
  have two : ∀ f : Fin 40 → EReal, (∀ k, k ≠ 0 → k ≠ 1 → f k = 0) → (∑ k, f k) = f 0 + f 1 := by
    intro f hf
    exact Finset.sum_eq_add 0 1 (by decide) (fun k _ hk => hf k hk.1 hk.2) (by simp) (by simp)
  have row : (∑ j, col j) = ((N v : ℝ) : EReal) := by
    rw [two col cz, c0, c1, ← EReal.coe_add]; congr 1; ring
  set m : ℝ := max (8589935 / 8589934592) (N v) with hm
  have hmp : 0 < m := lt_of_lt_of_le (by norm_num) (le_max_left _ _)
  have em : max (Ideal.ofBits .f32 0x3A83126F#32) (∑ j, col j) = ((m : ℝ) : EReal) := by
    rw [row, milli_val, hm, EReal.coe_strictMono.monotone.map_max]
  rw [em, two _ (by
    intro k h h'
    rw [cz k h h', Ideal.div_coe hmp.ne', zero_mul, if_neg (lt_irrefl _)])]
  rw [c0, c1, Ideal.div_coe hmp.ne', Ideal.div_coe hmp.ne', ← EReal.coe_mul, ← EReal.coe_mul, mul_one_div, mul_one_div]
  have eM : max (nv v : EReal) (Ideal.ofBits .f32 0x3A83126F#32) = ((m : ℝ) : EReal) := by
    rw [max_comm, milli_val, hm, EReal.coe_strictMono.monotone.map_max]; rfl
  by_cases h : 0 < nv v
  · have hB : 0 < S v g / 8 := by have := hSp h; linarith
    have hA : 0 < N v - S v g / 8 := by have := hSp h; linarith
    rw [if_pos (by exact_mod_cast div_pos hA hmp), if_pos (by exact_mod_cast div_pos hB hmp)]
    have hl : ∀ x : EReal, Ideal.log (max (Ideal.ofBits .f32 0x358637BD#32) x) = ⊤ ∨ ∃ r : ℝ, Ideal.log (max (Ideal.ofBits .f32 0x358637BD#32) x) = (r : EReal) := by
      intro x
      exact log_cases _ _ (by norm_num) (le_trans (le_of_eq micro_val.symm) (le_max_left _ _))
    obtain ⟨e, ne⟩ := neg_pair _ _ (hl (q 0)) (hl (q 1)) _ _ _ hA hB hmp
    refine ⟨?_, ne⟩
    rw [← e]
    unfold lp
    rw [eM, max_comm (q 0), max_comm (q 1), sv_real v g hg, eighth_val, show has v = 1 from if_pos h, ← EReal.coe_mul,
      show ((nv v : ℕ) : EReal) = ((N v : ℝ) : EReal) from rfl, ← EReal.coe_sub, mul_one_div]
  · have hN : N v = 0 := by unfold N; rw [show nv v = 0 by omega]; simp
    have hS : S v g = 0 := by linarith
    rw [hN, hS]
    have : has v = 0 := if_neg h
    unfold lp
    rw [eM, this, Ideal.div_coe hmp.ne']
    simp

end Cell

end Cert.InitAlg

end
-- ==== Proof.RefTable.lean ====
/-
  The reference's initial loss from its per-cell tables on: the two accumulating scatters, the normalised row, the
  logarithms, and the quotient.
-/
module

public import proofs.«01_k».proof.Proof.RefInit
public import proofs.«01_k».proof.Proof.InitAlg

@[expose] public section

set_option maxRecDepth 16384

noncomputable section

open Idealize.ShloMosaic Idealize.ShloMosaic.TcCoe Idealize.SL.Sem
open scoped BigOperators

namespace Cert.RefTable

open Cert.ReferenceIdeal Cert.ReferenceIdeal.Read Cert.Spec Cert.RefEnd Cert.RefGather Cert.RefInit Cert.InitAlg

variable (x0 : FVec Ideal S32768x40 .f32) (x4 : Img → EReal) (x5 x6 x7 : Img → BitVec 1) (h4 : ∀ i, x4 i < 1)

include h4

/-- The eighth of a clipped target rounds down to 0. -/
theorem v315_eq (n : Fin 32768) (p : Fin 64) : val_main_v315 (F := Ideal) x4 x5 (ix2 n p) = 0#32 := by
  pointwise [val_main_v315, val_main_v314, v306_eq x4 x5 h4]
  obtain ⟨r, h0, h1, e, _⟩ := hx x4 x5 h4 (px n p)
  rw [e, c8_val, Ideal.div_coe (by norm_num), ← EReal.coe_mul, Ideal.liftRound_coe]
  have hf : ⌊r * (1 / 8)⌋ = 0 := by rw [Int.floor_eq_zero_iff]; constructor <;> [positivity; linarith]
  rw [hf]
  exact fptosi_nat 0 (by norm_num)

/-- The weight a position gives to the lower bin. -/
theorem v327_eq (n : Fin 32768) (p : Fin 64) : val_main_v327 (F := Ideal) x4 x5 x6 x7 (ix2 n p)
    = (1 - Ideal.div (max 0 (gc x4 x5 n p)) (Ideal.ofBits .f32 0x41000000#32)) * (if vc x4 x5 x6 x7 n p = true then 1 else 0) := by
  pointwise [val_main_v327, val_main_v326, val_main_v325, val_main_v324, val_main_cst_86, val_main_v319, val_main_v318, v315_eq x4 x5 h4, v306_eq x4 x5 h4,
    v309_eq x4 x5 x6 x7 h4]
  rw [sitofp_ofNat 0 (by omega), Nat.cast_zero, sub_zero, id, v309_eq x4 x5 x6 x7 h4]

/-- The weight a position gives to the upper bin. -/
theorem v329_eq (n : Fin 32768) (p : Fin 64) : val_main_v329 (F := Ideal) x4 x5 x6 x7 (ix2 n p)
    = Ideal.div (max 0 (gc x4 x5 n p)) (Ideal.ofBits .f32 0x41000000#32) * (if vc x4 x5 x6 x7 n p = true then 1 else 0) := by
  pointwise [val_main_v329, val_main_v328, val_main_v319, val_main_v318, v315_eq x4 x5 h4, v306_eq x4 x5 h4,
    v309_eq x4 x5 x6 x7 h4]
  rw [sitofp_ofNat 0 (by omega), Nat.cast_zero, sub_zero, id, v309_eq x4 x5 x6 x7 h4]

/-- The lower bin's row is the cell. -/
theorem v346_0 (n : Fin 32768) (p : Fin 64) : val_main_v346 (F := Ideal) x4 x5 (ix3 n p 0) = BitVec.ofNat 32 n.val := by
  pointwise [val_main_v346, val_main_v344, val_main_v343, val_main_v337, val_main_v334, val_main_v336, val_main_v331, val_main_v330, val_main_v333, val_main_v335, val_main_c_88, val_main_c_89]
  exact Routing.wrap_of_lt _ _ (by rw [BitVec.toNat_ofNat]; omega)

/-- The lower bin is bin 0. -/
theorem v346_1 (n : Fin 32768) (p : Fin 64) : val_main_v346 (F := Ideal) x4 x5 (ix3 n p 1) = BitVec.ofNat 32 0 := by
  pointwise [val_main_v346, val_main_v345, val_main_v342, val_main_v341, val_main_v339, val_main_v321, v315_eq x4 x5 h4, val_main_v320, val_main_c_84, val_main_v338, val_main_c_90, val_main_v340, val_main_c_91]
  rfl

/-- The upper bin's row is the cell. -/
theorem v361_0 (n : Fin 32768) (p : Fin 64) : val_main_v361 (F := Ideal) x4 x5 (ix3 n p 0) = BitVec.ofNat 32 n.val := by
  pointwise [val_main_v361, val_main_v359, val_main_v358, val_main_v352, val_main_v349, val_main_v351, val_main_v331, val_main_v330, val_main_v348, val_main_v350, val_main_c_92, val_main_c_93]
  exact Routing.wrap_of_lt _ _ (by rw [BitVec.toNat_ofNat]; omega)

/-- The upper bin is bin 1. -/
theorem v361_1 (n : Fin 32768) (p : Fin 64) : val_main_v361 (F := Ideal) x4 x5 (ix3 n p 1) = BitVec.ofNat 32 1 := by
  pointwise [val_main_v361, val_main_v360, val_main_v357, val_main_v356, val_main_v354, val_main_v323, val_main_v317, val_main_v316, val_main_c_83, v315_eq x4 x5 h4, val_main_v322, val_main_c_85, val_main_v353, val_main_c_94, val_main_v355, val_main_c_95]
  rfl

/-- A taking-part target is a real number strictly between 0 and 1. -/
theorem real_target (n : Fin 32768) (p : Fin 64) (hv : vc x4 x5 x6 x7 n p = true) :
    ∃ r : ℝ, 0 < r ∧ r < 1 ∧ gc x4 x5 n p = (r : EReal) := by
  have hp : 0 < G x4 x5 (px n p) := by
    have := of_decide_eq_true hv
    exact this.1
  obtain ⟨r, h0, h1, e, hr⟩ := hx x4 x5 h4 (px n p)
  exact ⟨r, hr.mp hp, h1, by rw [← e]; exact (max_eq_right hp.le).symm⟩

/-- The two scatters' result: the two shares in the first two columns, 0 elsewhere. -/
theorem v362_eq (n : Fin 32768) (k : Fin 40) : val_main_v362 (F := Ideal) x4 x5 x6 x7 (ix2 n k)
    = (if k = 0 then ((N (vc x4 x5 x6 x7 n) - S (vc x4 x5 x6 x7 n) (gc x4 x5 n) / 8 : ℝ) : EReal) else 0)
      + (if k = 1 then ((S (vc x4 x5 x6 x7 n) (gc x4 x5 n) / 8 : ℝ) : EReal) else 0) := by
  unfold val_main_v362
  rw [scatter_rows _ _ _ 1 (v361_0 x4 x5 h4) (v361_1 x4 x5 h4)]
  unfold val_main_v347
  rw [scatter_rows _ _ _ 0 (v346_0 x4 x5 h4) (v346_1 x4 x5 h4)]
  rw [Finset.sum_congr rfl fun p _ => v327_eq x4 x5 x6 x7 h4 n p, Finset.sum_congr rfl fun p _ => v329_eq x4 x5 x6 x7 h4 n p,
    sum_first _ _ (real_target x4 x5 x6 x7 h4 n), sum_second _ _ (real_target x4 x5 x6 x7 h4 n)]
  pointwise [val_main_v332, val_main_cst_87]

/-- A row of weighted logarithms. -/
theorem v373_eq (n : Fin 32768) (k : Fin 40) : val_main_v373 (F := Ideal) x0 x4 x5 x6 x7 (ix2 n k)
    = if 0 < Ideal.div (val_main_v362 (F := Ideal) x4 x5 x6 x7 (ix2 n k)) (max (Ideal.ofBits .f32 0x3A83126F#32) (∑ j, val_main_v362 (F := Ideal) x4 x5 x6 x7 (ix2 n j)))
      then Ideal.log (max (Ideal.ofBits .f32 0x358637BD#32) (x0 (ix2 n k))) * Ideal.div (val_main_v362 (F := Ideal) x4 x5 x6 x7 (ix2 n k)) (max (Ideal.ofBits .f32 0x3A83126F#32) (∑ j, val_main_v362 (F := Ideal) x4 x5 x6 x7 (ix2 n j))) else 0 := by
  pointwise [val_main_v373, val_main_v372, val_main_v371, val_main_v370, val_main_v369, val_main_v368, val_main_v367, val_main_v366, val_main_v365, val_main_v364, val_main_v363, val_main_cst_96, val_main_cst_97, val_main_cst_98, val_main_cst_99, val_main_cst_100, val_main_call39_v0, val_main_call39_v1, val_main_call40_v0, val_main_call40_v1, val_main_call41_v0, val_main_call41_v1]
  have e0 : (id (constant (F := Ideal) S_ .f32 0x00000000#32) ix0 : EReal) = 0 := by
    show Ideal.ofBits .f32 0x00000000#32 = 0
    simp [Ideal.ofBits, Ideal.ieee]
  have e1 : (id (constant (F := Ideal) S_ .f32 0x3A83126F#32) ix0 : EReal) = Ideal.ofBits .f32 0x3A83126F#32 := rfl
  have e2 : (id (constant (F := Ideal) S_ .f32 0x358637BD#32) ix0 : EReal) = Ideal.ofBits .f32 0x358637BD#32 := rfl
  rw [e0, e1, e2]

/-- The sum of the cells' terms. -/
theorem v375_eq : val_main_v375 (F := Ideal) x0 x4 x5 x6 x7 ix0 = T6 x0 x4 x5 x6 x7 := by
  pointwise [val_main_v375, val_main_v374, val_main_cst_101]
  have key : ∀ n : Fin 32768, -(∑ k, val_main_v373 (F := Ideal) x0 x4 x5 x6 x7 (ix2 n k)) = f6 x0 x4 x5 x6 x7 n
      ∧ (∑ k, val_main_v373 (F := Ideal) x0 x4 x5 x6 x7 (ix2 n k)) ≠ ⊥ := by
    intro n
    rw [Finset.sum_congr rfl fun k _ => v373_eq x0 x4 x5 x6 x7 h4 n k]
    exact cell_term _ _ (real_target x4 x5 x6 x7 h4 n) (fun k => x0 (ix2 n k)) (fun k => val_main_v362 (F := Ideal) x4 x5 x6 x7 (ix2 n k))
      (v362_eq x4 x5 x6 x7 h4 n)
  rw [neg_sum _ fun n => (key n).2]
  exact Finset.sum_congr rfl fun n _ => (key n).1

/-- The number of cells that take part. -/
theorem v381_eq : val_main_v381 (F := Ideal) x4 x5 x6 x7 ix0 = T7 x4 x5 x6 x7 := by
  pointwise [val_main_v381, val_main_v380, val_main_v379, val_main_v378, val_main_v377, val_main_v376, val_main_cst_102, val_main_cst_103, val_main_c_104, v313_eq x4 x5 x6 x7 h4]
  rw [fold_count _ (fun n => 0 < nv (vc x4 x5 x6 x7 n)) (fun n => by
      show BitVec.ofBool (decide ((0 : EReal) < ∑ x : Fin 64, if vc x4 x5 x6 x7 n x = true then 1 else 0)) = 1#1 ↔ 0 < nv (vc x4 x5 x6 x7 n)
      rw [sum_ind]
      unfold nv
      simp [StableHlo.Predicate.ofBool_eq_one_iff]), sitofp_ofNat _ (lt_of_le_of_lt (Finset.card_le_univ _) (by simp)), ← sum_ind]
  rfl

/-- The reference's third result. -/
theorem ref3 (i : (⟨0, ![]⟩ : Shape).Idx) : val_main_v384 (F := Ideal) x0 x4 x5 x6 x7 i = r3 x0 x4 x5 x6 x7 := by
  rw [show i = ix0 from funext fun a => a.elim0]
  pointwise [val_main_v384, val_main_v383, val_main_v382, val_main_cst_105]
  rw [v375_eq x0 x4 x5 x6 x7 h4, id]
  show Ideal.div _ (val_main_v381 (F := Ideal) x4 x5 x6 x7 ix0 + Ideal.ofBits .f32 0x358637BD#32) = _
  rw [v381_eq x4 x5 x6 x7 h4]
  rfl

end Cert.RefTable

end
-- ==== Proof.RefOut.lean ====
/-
  The reference's result array: its five elements.
-/
module

public import proofs.«01_k».proof.Proof.RefTable

@[expose] public section

set_option maxRecDepth 16384

noncomputable section

open Idealize.ShloMosaic Idealize.ShloMosaic.TcCoe Idealize.SL.Sem

namespace Cert.RefOut

open Cert.ReferenceIdeal Cert.ReferenceIdeal.Read Cert.Spec

variable (x0 : FVec Ideal S32768x40 .f32) (x1 : FVec Ideal S8x4096x8 .f32) (x2 x3 x4 : FVec Ideal S8x512x512 .f32)
  (x5 x6 x7 : IVec S8x512x512 1) (x8 : IVec S8x512x512 32)

/-- Entry 0 of the result is the reference's scalar 1. -/
theorem out0 : val_main_v430 (F := Ideal) x0 x1 x2 x3 x4 x5 x6 x7 x8 (ix1 0) = val_main_v268 (F := Ideal) x1 x4 x5 x8 ix0 := by
  pointwise [val_main_v430, val_main_v425]
/-- Entry 1 of the result is the reference's scalar 2. -/
theorem out1 : val_main_v430 (F := Ideal) x0 x1 x2 x3 x4 x5 x6 x7 x8 (ix1 1) = val_main_v278 (F := Ideal) x1 x4 x5 x8 ix0 := by
  pointwise [val_main_v430, val_main_v426]
/-- Entry 2 of the result is the reference's scalar 3. -/
theorem out2 : val_main_v430 (F := Ideal) x0 x1 x2 x3 x4 x5 x6 x7 x8 (ix1 2) = val_main_v384 (F := Ideal) x0 x4 x5 x6 x7 ix0 := by
  pointwise [val_main_v430, val_main_v427]
/-- Entry 3 of the result is the reference's scalar 4. -/
theorem out3 : val_main_v430 (F := Ideal) x0 x1 x2 x3 x4 x5 x6 x7 x8 (ix1 3) = val_main_v409 (F := Ideal) x3 x4 x5 ix0 := by
  pointwise [val_main_v430, val_main_v428]
/-- Entry 4 of the result is the reference's scalar 5. -/
theorem out4 : val_main_v430 (F := Ideal) x0 x1 x2 x3 x4 x5 x6 x7 x8 (ix1 4) = val_main_v424 (F := Ideal) x2 x4 x5 ix0 := by
  pointwise [val_main_v430, val_main_v429]

end Cert.RefOut

end
-- ==== Proof.CellAlg.lean ====
/-
  The algebra of a cell's matching: the label averages lie in [0, 1), a label's distance is below 8 where it has
  targets and one million elsewhere, and the cell's error is the distance of the nearest label.
-/
module

public import proofs.«01_k».proof.Proof.InitAlg

@[expose] public section

noncomputable section

open Idealize.ShloMosaic
open scoped BigOperators

namespace Cert.CellAlg

open Cert.Spec Cert.InitAlg

section

variable (g : Fin 64 → EReal) (lb : Fin 64 → BitVec 32) (hg : ∀ p, g p < 1)

include hg

/-- A positive target is a real number below 1. -/
theorem pos_real (p : Fin 64) (h : 0 < g p) : ∃ r : ℝ, 0 < r ∧ r < 1 ∧ g p = (r : EReal) := by
  have h1 := hg p
  generalize g p = x at *
  induction x using EReal.rec with
  | bot => exact absurd h (by simp)
  | top => exact absurd h1 (by simp)
  | coe r => exact ⟨r, by exact_mod_cast h, by exact_mod_cast h1, rfl⟩

/-- A label's average: 0 without targets, else a real number strictly between 0 and 1. -/
theorem tm_cases (k : BitVec 32) :
    (¬ 0 < cN g lb k ∧ tm g lb k = 0) ∨ (0 < cN g lb k ∧ ∃ r : ℝ, 0 < r ∧ r < 1 ∧ tm g lb k = (r : EReal)) := by
  by_cases h : 0 < cN g lb k
  · right
    refine ⟨h, ?_⟩
    let v : Fin 64 → Bool := fun p => decide (lb p = k ∧ 0 < g p)
    have hv : ∀ p, v p = true → ∃ r : ℝ, 0 < r ∧ r < 1 ∧ g p = (r : EReal) := fun p hp => pos_real g hg p (of_decide_eq_true hp).2
    have eN : nv v = cN g lb k := by unfold nv cN; congr 1; ext p; simp [v]
    have eS : sv v g = sm g lb k := by unfold sv sm; refine Finset.sum_congr rfl fun p _ => ?_; simp [v]
    obtain ⟨h0, hle, hpos⟩ := S_bounds v g hv
    have hS : 0 < S v g := hpos (by rw [eN]; exact h)
    have hlt : S v g < N v := by
      rw [← one_sum]
      obtain ⟨p, hp⟩ := Finset.card_pos.mp (show 0 < nv v by rw [eN]; exact h)
      have hp' := (Finset.mem_filter.mp hp).2
      refine Finset.sum_lt_sum (fun p _ => (rho_bounds v g hv p).2.1) ⟨p, Finset.mem_univ _, ?_⟩
      obtain ⟨r, _, r1, e⟩ := hv p hp'
      unfold rho
      rw [if_pos hp', if_pos hp', e, EReal.toReal_coe]
      exact r1
    have hN : 0 < N v := lt_trans hS hlt
    refine ⟨S v g / N v, div_pos hS hN, (div_lt_one hN).mpr hlt, ?_⟩
    have hm : max ((cN g lb k : ℕ) : EReal) 1 = ((N v : ℝ) : EReal) := by
      rw [max_eq_left (by exact_mod_cast h), ← eN]; rfl
    unfold tm
    rw [if_pos h, ← eS, sv_real v g hv, hm, Ideal.div_coe hN.ne', ← EReal.coe_mul, mul_one_div]
  · left
    exact ⟨h, if_neg h⟩

/-- An average is positive just where the label has targets. -/
theorem tm_pos (k : BitVec 32) : 0 < tm g lb k ↔ 0 < cN g lb k := by
  rcases tm_cases g lb hg k with ⟨h, e⟩ | ⟨h, r, h0, _, e⟩
  · rw [e]; simp [h]
  · rw [e]; simp [h, h0]

/-- A label's average is 0 exactly when the label has no positive target. -/
theorem tm_zero (k : BitVec 32) : tm g lb k = 0 ↔ ¬ 0 < cN g lb k := by
  rcases tm_cases g lb hg k with ⟨h, e⟩ | ⟨h, r, h0, _, e⟩
  · rw [e]; simp [h]
  · rw [e]; simp [h, h0.ne']

/-- A label's average is not negative. -/
theorem tm_nonneg (k : BitVec 32) : 0 ≤ tm g lb k := by
  rcases tm_cases g lb hg k with ⟨h, e⟩ | ⟨h, r, h0, _, e⟩
  · rw [e]
  · rw [e]; exact_mod_cast h0.le

/-- A label's average is below 1. -/
theorem tm_lt (k : BitVec 32) : tm g lb k < 1 := by
  rcases tm_cases g lb hg k with ⟨h, e⟩ | ⟨h, r, _, h1, e⟩
  · rw [e]; exact zero_lt_one
  · rw [e]; exact_mod_cast h1

end

/-- A number in [0, 1), read as a real. -/
theorem real_unit (x : EReal) (h0 : 0 ≤ x) (h1 : x < 1) : ∃ r : ℝ, 0 ≤ r ∧ r < 1 ∧ x = (r : EReal) := by
  induction x using EReal.rec with
  | bot => exact absurd h0 (by simp)
  | top => exact absurd h1 (by simp)
  | coe r => exact ⟨r, by exact_mod_cast h0, by exact_mod_cast h1, rfl⟩

/-- The absolute value of a real number. -/
theorem av_real (x : ℝ) : av (x : EReal) = ((|x| : ℝ) : EReal) := by
  show max (x : EReal) (-(x : EReal)) = _
  rw [← EReal.coe_neg, abs, EReal.coe_strictMono.monotone.map_max]

/-- The absolute difference does not depend on the order. -/
theorem av_comm (x y : EReal) (hx0 : 0 ≤ x) (hx1 : x < 1) (hy : ∃ r : ℝ, y = (r : EReal)) : av (x - y) = av (y - x) := by
  obtain ⟨r, _, _, rfl⟩ := real_unit x hx0 hx1
  obtain ⟨s, rfl⟩ := hy
  rw [← EReal.coe_sub, ← EReal.coe_sub, av_real, av_real, abs_sub_comm]

section

variable (pr : Fin 8 → EReal) (hp : ∀ q, 0 ≤ pr q ∧ pr q < 1)

include hp

/-- A proposal in disparity units is a real number. -/
theorem prop_real (q : Fin 8) : ∃ s : ℝ, 0 ≤ s ∧ s < 1 ∧ pr q = (s : EReal) ∧ pr q * Ideal.ofBits .f32 0x41000000#32 = ((s * 8 : ℝ) : EReal) := by
  obtain ⟨s, h0, h1, e⟩ := real_unit _ (hp q).1 (hp q).2
  exact ⟨s, h0, h1, e, by rw [e, c8_val, ← EReal.coe_mul]⟩

/-- A distance to one proposal is below 8. -/
theorem one_lt (x : EReal) (h0 : 0 ≤ x) (h1 : x < 1) (q : Fin 8) : av (x - pr q * Ideal.ofBits .f32 0x41000000#32) < ((8 : ℝ) : EReal) := by
  obtain ⟨r, hr0, hr1, rfl⟩ := real_unit x h0 h1
  obtain ⟨s, hs0, hs1, _, e⟩ := prop_real pr hp q
  rw [e, ← EReal.coe_sub, av_real]
  exact_mod_cast abs_lt.mpr ⟨by linarith, by linarith⟩

omit hp in
/-- The distance is at most the distance to any one proposal. -/
theorem dist_le (x : EReal) (q : Fin 8) : dist pr x ≤ av (x - pr q * Ideal.ofBits .f32 0x41000000#32) := by
  unfold Spec.dist
  exact (Finset.fold_min_le _).mpr (Or.inr ⟨q, Finset.mem_univ _, le_rfl⟩)

omit hp in
/-- A nearest proposal's distance is the distance. -/
theorem dist_eq (x : EReal) (q : Fin 8) (h : ∀ q', av (x - pr q * Ideal.ofBits .f32 0x41000000#32) ≤ av (x - pr q' * Ideal.ofBits .f32 0x41000000#32)) :
    dist pr x = av (x - pr q * Ideal.ofBits .f32 0x41000000#32) := by
  refine le_antisymm (dist_le pr x q) ?_
  unfold Spec.dist
  refine (Finset.le_fold_min _).mpr ⟨by rw [inf_val]; exact le_top, fun q' _ => h q'⟩

/-- The distance of a value in [0, 1) to the nearest proposal is below 8. -/
theorem dist_lt (x : EReal) (h0 : 0 ≤ x) (h1 : x < 1) : dist pr x < ((8 : ℝ) : EReal) :=
  lt_of_le_of_lt (dist_le pr x 0) (one_lt pr hp x h0 h1 0)

end

section

variable (g : Fin 64 → EReal) (lb : Fin 64 → BitVec 32) (pr : Fin 8 → EReal) (hg : ∀ p, g p < 1)
  (hp : ∀ q, 0 ≤ pr q ∧ pr q < 1)

include hg hp

/-- Eight is below one million. -/
theorem eight_lt_big : ((8 : ℝ) : EReal) < big := by
  rw [show big = ((1000000 : ℝ) : EReal) from big_val]; exact_mod_cast (by norm_num : (8 : ℝ) < 1000000)

/-- The distance of a label that has targets is below 8. -/
theorem dk_lt (k : BitVec 32) (h : 0 < cN g lb k) : dk g lb pr k < ((8 : ℝ) : EReal) := by
  unfold dk
  rw [if_pos h]
  exact dist_lt pr hp _ (tm_nonneg g lb hg k) (tm_lt g lb hg k)

/-- The distance of any label is at most one million. -/
theorem dk_le (k : BitVec 32) : dk g lb pr k ≤ big := by
  by_cases h : 0 < cN g lb k
  · exact (lt_trans (dk_lt g lb pr hg hp k h) (eight_lt_big g pr hg hp)).le
  · unfold dk; rw [if_neg h]

/-- The cell's error, existence and averages from a label whose distance is least. -/
theorem nearest (s : Fin 4) (hs : ∀ k : Fin 4, dk g lb pr (BitVec.ofNat 32 s.val) ≤ dk g lb pr (BitVec.ofNat 32 k.val)) :
    (0 < tm g lb (BitVec.ofNat 32 s.val) → exs g lb = 1 ∧ err g lb pr = dist pr (tm g lb (BitVec.ofNat 32 s.val)))
    ∧ (¬ 0 < tm g lb (BitVec.ofNat 32 s.val) → exs g lb = 0 ∧ ∀ k : Fin 4, tm g lb (BitVec.ofNat 32 k.val) = 0) := by
  have herr : err g lb pr = dk g lb pr (BitVec.ofNat 32 s.val) := by
    have h0 := hs 0
    have h1 := hs 1
    have h2 := hs 2
    have h3 := hs 3
    refine le_antisymm ?_ ?_
    · unfold err
      have : s = 0 ∨ s = 1 ∨ s = 2 ∨ s = 3 := by omega
      rcases this with rfl | rfl | rfl | rfl
      · exact le_trans (min_le_left _ _) (le_trans (min_le_left _ _) (le_trans (min_le_left _ _) (min_le_right _ _)))
      · exact le_trans (min_le_left _ _) (le_trans (min_le_left _ _) (min_le_right _ _))
      · exact le_trans (min_le_left _ _) (min_le_right _ _)
      · exact min_le_right _ _
    · exact le_min (le_min (le_min (le_min (dk_le g lb pr hg hp _) h0) h1) h2) h3
  refine ⟨fun h => ?_, fun h => ?_⟩
  · have hc : 0 < cN g lb (BitVec.ofNat 32 s.val) := (tm_pos g lb hg _).mp h
    refine ⟨?_, ?_⟩
    · unfold exs ind
      rw [if_pos]
      have : s = 0 ∨ s = 1 ∨ s = 2 ∨ s = 3 := by omega
      rcases this with rfl | rfl | rfl | rfl
      · have : 0 < cN g lb 0#32 := hc
        omega
      · have : 0 < cN g lb 1#32 := hc
        omega
      · have : 0 < cN g lb 2#32 := hc
        omega
      · have : 0 < cN g lb 3#32 := hc
        omega
    · rw [herr]; unfold dk; rw [if_pos hc]
  · have hc : ¬ 0 < cN g lb (BitVec.ofNat 32 s.val) := fun h' => h ((tm_pos g lb hg _).mpr h')
    have hz : ∀ k : Fin 4, ¬ 0 < cN g lb (BitVec.ofNat 32 k.val) := by
      intro k hk
      have h1 := hs k
      have h2 := dk_lt g lb pr hg hp _ hk
      have h3 : dk g lb pr (BitVec.ofNat 32 s.val) = big := if_neg hc
      rw [h3] at h1
      exact absurd (lt_of_le_of_lt h1 h2) (not_lt.mpr (eight_lt_big g pr hg hp).le)
    refine ⟨?_, fun k => (tm_zero g lb hg _).mpr (hz k)⟩
    unfold exs ind
    rw [if_neg]
    have z0 : ¬ 0 < cN g lb 0#32 := hz 0
    have z1 : ¬ 0 < cN g lb 1#32 := hz 1
    have z2 : ¬ 0 < cN g lb 2#32 := hz 2
    have z3 : ¬ 0 < cN g lb 3#32 := hz 3
    omega

end

end Cert.CellAlg

end
-- ==== Proof.RefModal.lean ====
/-
  The reference's label averages of a cell and their distances to the nearest proposal.
-/
module

public import proofs.«01_k».proof.Proof.RefInit
public import proofs.«01_k».proof.Proof.CellAlg

@[expose] public section

set_option maxRecDepth 16384

noncomputable section

open Idealize.ShloMosaic Idealize.ShloMosaic.TcCoe Idealize.SL.Sem
open scoped BigOperators

namespace Cert.RefModal

open Cert.ReferenceIdeal Cert.ReferenceIdeal.Read Cert.Spec Cert.RefEnd Cert.RefInit

variable (x1 : FVec Ideal S8x4096x8 .f32) (x4 : Img → EReal) (x5 : Img → BitVec 1) (x8 : Img → BitVec 32)

/-- The targets of a cell. -/
theorem v6_eq (n : Fin 32768) (p : Fin 64) : val_main_v6 (F := Ideal) x4 x5 (ix2 n p) = gc x4 x5 n p := by
  pointwise [val_main_v6, val_main_v5, val_main_v4, v0_eq, px_eq]

/-- The labels of a cell. -/
theorem v9_eq (n : Fin 32768) (p : Fin 64) : val_main_v9 (F := Ideal) x8 (ix2 n p) = lc x8 n p := by
  pointwise [val_main_v9, val_main_v8, val_main_v7, px_eq]

/-- The proposals of a cell, in disparity units. -/
theorem v3_eq (n : Fin 32768) (q : Fin 8) : val_main_v3 (F := Ideal) x1 (ix2 n q) = pc x1 n q * Ideal.ofBits .f32 0x41000000#32 := by
  pointwise [val_main_v3, val_main_v2, val_main_v1, val_main_cst_0]

/-- The conjunction of two tests as a bit. -/
theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- A count compared with zero. -/
theorem sgt_zero (n : ℕ) (h : n < 2 ^ 31) : IntOp.cmpi CmpIPredicate.sgt (BitVec.ofNat 32 n) 0#32 = BitVec.ofBool (decide (0 < n)) := by
  show BitVec.ofBool ((0#32).slt (BitVec.ofNat 32 n)) = _
  congr 1
  rw [Bool.eq_iff_iff, BitVec.slt_iff_toInt_lt, WordCmp.toInt_ofNat_of_lt (w := 32) h]
  simp

/-- The reference's average: the sum over the count where there is one, else 0. -/
theorem modal_form (g : Fin 64 → EReal) (lb : Fin 64 → BitVec 32) (k : BitVec 32) :
    Scalar.select
      (IntOp.cmpi CmpIPredicate.sgt
        (Finset.fold IntOp.addi (0#32) (fun x => BitVec.setWidth 32 (BitVec.ofBool (decide (lb x = k ∧ 0 < g x)))) Finset.univ) 0#32)
      (Ideal.div (∑ x, if lb x = k ∧ 0 < g x then g x else id (constant (F := Ideal) S_ FTy.f32 0#32) ix0)
        (FloatOps.sitofp (F := Ideal) FTy.f32
          (IntOp.maxsi (Finset.fold IntOp.addi (0#32) (fun x => BitVec.setWidth 32 (BitVec.ofBool (decide (lb x = k ∧ 0 < g x)))) Finset.univ) 1#32)))
      (id (constant (F := Ideal) S_ FTy.f32 0#32) ix0) = tm g lb k := by
  have e0 : (id (constant (F := Ideal) S_ .f32 0x00000000#32) ix0 : EReal) = 0 := by
    show Ideal.ofBits .f32 0x00000000#32 = 0
    simp [Ideal.ofBits, Ideal.ieee]
  have hc : (Finset.univ.filter fun p => lb p = k ∧ 0 < g p).card < 2 ^ 31 :=
    lt_of_le_of_lt (Finset.card_le_univ _) (by simp)
  rw [e0, fold_count _ (fun x => lb x = k ∧ 0 < g x) (fun x => by simp [StableHlo.Predicate.ofBool_eq_one_iff]),
    sgt_zero _ hc, sitofp_max _ hc]
  unfold tm
  show Scalar.select (BitVec.ofBool (decide (0 < cN g lb k))) (Ideal.div (sm g lb k) (max (cN g lb k : EReal) 1)) 0 = _
  by_cases h : 0 < cN g lb k <;> simp [h, Scalar.select]

/-- Whether a position counts towards label 0. -/
theorem mask0 (n : Fin 32768) (p : Fin 64) :
    val_main_v14 (F := Ideal) x4 x5 x8 (ix2 n p) = BitVec.ofBool (decide (lc x8 n p = 0#32 ∧ 0 < gc x4 x5 n p)) := by
  pointwise [val_main_v14, val_main_v11, val_main_v10, val_main_v13, val_main_v12, val_main_c, val_main_cst_1, v6_eq x4 x5, v9_eq x8]
  exact and_bit _ _

/-- The average of label 0. -/
theorem modal0 (n : Fin 32768) : val_main_v25 (F := Ideal) x4 x5 x8 (ix1 n) = tm (gc x4 x5 n) (lc x8 n) 0#32 := by
  pointwise [val_main_v25, val_main_v24, val_main_v23, val_main_v22, val_main_v21, val_main_v20, val_main_v19, val_main_v18, val_main_v17, val_main_v16, val_main_v15, mask0 x4 x5 x8, v6_eq x4 x5,
    val_main_cst_2, val_main_cst_3, val_main_c_4, val_main_c_5, val_main_c_6, val_main_cst_7, val_main_call1_v0, val_main_call1_v1, val_main_call2_v0, val_main_call2_v1]
  exact modal_form _ _ _

/-- Whether a position counts towards label 1. -/
theorem mask1 (n : Fin 32768) (p : Fin 64) :
    val_main_v30 (F := Ideal) x4 x5 x8 (ix2 n p) = BitVec.ofBool (decide (lc x8 n p = 1#32 ∧ 0 < gc x4 x5 n p)) := by
  pointwise [val_main_v30, val_main_v27, val_main_v26, val_main_v29, val_main_v28, val_main_c_8, val_main_cst_9, v6_eq x4 x5, v9_eq x8]
  exact and_bit _ _

/-- The average of label 1. -/
theorem modal1 (n : Fin 32768) : val_main_v41 (F := Ideal) x4 x5 x8 (ix1 n) = tm (gc x4 x5 n) (lc x8 n) 1#32 := by
  pointwise [val_main_v41, val_main_v40, val_main_v39, val_main_v38, val_main_v37, val_main_v36, val_main_v35, val_main_v34, val_main_v33, val_main_v32, val_main_v31, mask1 x4 x5 x8, v6_eq x4 x5,
    val_main_cst_10, val_main_cst_11, val_main_c_12, val_main_c_13, val_main_c_14, val_main_cst_15, val_main_call3_v0, val_main_call3_v1, val_main_call4_v0, val_main_call4_v1]
  exact modal_form _ _ _

/-- Whether a position counts towards label 2. -/
theorem mask2 (n : Fin 32768) (p : Fin 64) :
    val_main_v46 (F := Ideal) x4 x5 x8 (ix2 n p) = BitVec.ofBool (decide (lc x8 n p = 2#32 ∧ 0 < gc x4 x5 n p)) := by
  pointwise [val_main_v46, val_main_v43, val_main_v42, val_main_v45, val_main_v44, val_main_c_16, val_main_cst_17, v6_eq x4 x5, v9_eq x8]
  exact and_bit _ _

/-- The average of label 2. -/
theorem modal2 (n : Fin 32768) : val_main_v57 (F := Ideal) x4 x5 x8 (ix1 n) = tm (gc x4 x5 n) (lc x8 n) 2#32 := by
  pointwise [val_main_v57, val_main_v56, val_main_v55, val_main_v54, val_main_v53, val_main_v52, val_main_v51, val_main_v50, val_main_v49, val_main_v48, val_main_v47, mask2 x4 x5 x8, v6_eq x4 x5,
    val_main_cst_18, val_main_cst_19, val_main_c_20, val_main_c_21, val_main_c_22, val_main_cst_23, val_main_call5_v0, val_main_call5_v1, val_main_call6_v0, val_main_call6_v1]
  exact modal_form _ _ _

/-- Whether a position counts towards label 3. -/
theorem mask3 (n : Fin 32768) (p : Fin 64) :
    val_main_v62 (F := Ideal) x4 x5 x8 (ix2 n p) = BitVec.ofBool (decide (lc x8 n p = 3#32 ∧ 0 < gc x4 x5 n p)) := by
  pointwise [val_main_v62, val_main_v59, val_main_v58, val_main_v61, val_main_v60, val_main_c_24, val_main_cst_25, v6_eq x4 x5, v9_eq x8]
  exact and_bit _ _

/-- The average of label 3. -/
theorem modal3 (n : Fin 32768) : val_main_v73 (F := Ideal) x4 x5 x8 (ix1 n) = tm (gc x4 x5 n) (lc x8 n) 3#32 := by
  pointwise [val_main_v73, val_main_v72, val_main_v71, val_main_v70, val_main_v69, val_main_v68, val_main_v67, val_main_v66, val_main_v65, val_main_v64, val_main_v63, mask3 x4 x5 x8, v6_eq x4 x5,
    val_main_cst_26, val_main_cst_27, val_main_c_28, val_main_c_29, val_main_c_30, val_main_cst_31, val_main_call7_v0, val_main_call7_v1, val_main_call8_v0, val_main_call8_v1]
  exact modal_form _ _ _

/-- The word of a label. -/
abbrev kw (k : Fin 4) : BitVec 32 := BitVec.ofNat 32 k.val

/-- The four averages side by side. -/
theorem v78_eq (n : Fin 32768) (k : Fin 4) : val_main_v78 (F := Ideal) x4 x5 x8 (ix2 n k) = tm (gc x4 x5 n) (lc x8 n) (kw k) := by
  have : k = 0 ∨ k = 1 ∨ k = 2 ∨ k = 3 := by omega
  rcases this with rfl | rfl | rfl | rfl
  · pointwise [val_main_v78, val_main_v74, modal0 x4 x5 x8]
    rfl
  · pointwise [val_main_v78, val_main_v75, modal1 x4 x5 x8]
    rfl
  · pointwise [val_main_v78, val_main_v76, modal2 x4 x5 x8]
    rfl
  · pointwise [val_main_v78, val_main_v77, modal3 x4 x5 x8]
    rfl

variable (h4 : ∀ i, x4 i < 1)

include h4

/-- A cell's targets are below 1. -/
theorem gc_lt (n : Fin 32768) (p : Fin 64) : gc x4 x5 n p < 1 := G_lt x4 x5 h4 _

/-- No average reaches 320. -/
theorem v81_eq (n : Fin 32768) (k : Fin 4) : val_main_v81 (F := Ideal) x4 x5 x8 (ix2 n k) = tm (gc x4 x5 n) (lc x8 n) (kw k) := by
  pointwise [val_main_v81, val_main_v80, val_main_v79, val_main_cst_32, v78_eq x4 x5 x8]
  rw [if_neg (not_le.mpr (lt_trans (CellAlg.tm_lt _ _ (gc_lt x4 x5 h4 n) _) one_lt_c320))]

/-- A label's distance to the nearest proposal. -/
theorem v92_eq (n : Fin 32768) (k : Fin 4) : val_main_v92 (F := Ideal) x1 x4 x5 x8 (ix2 n k) = dk (gc x4 x5 n) (lc x8 n) (pc x1 n) (kw k) := by
  pointwise [val_main_v92, val_main_v91, val_main_v90, val_main_v89, val_main_v88, val_main_v87, val_main_v86, val_main_v85, val_main_v84, val_main_v83, val_main_v82,
    v81_eq x4 x5 x8 h4, v3_eq x1, val_main_cst_34, val_main_cst_35, val_main_cst_36, val_main_call10_v0, val_main_call10_v1, val_main_call10_v2]
  have e : (id (constant (F := Ideal) S_ .f32 0x49742400#32) ix0 : EReal) = big := rfl
  unfold dk
  by_cases h : 0 < cN (gc x4 x5 n) (lc x8 n) (kw k)
  · have hz : ¬ tm (gc x4 x5 n) (lc x8 n) (kw k) = 0 := fun h' => (CellAlg.tm_zero _ _ (gc_lt x4 x5 h4 n) _).mp h' h
    simp only [if_neg hz, if_pos h]
    rfl
  · have hz : tm (gc x4 x5 n) (lc x8 n) (kw k) = 0 := (CellAlg.tm_zero _ _ (gc_lt x4 x5 h4 n) _).mpr h
    rw [if_neg h]
    simp only [if_pos hz, e]
    refine le_antisymm ((Finset.fold_min_le _).mpr (Or.inr ⟨0, Finset.mem_univ _, le_rfl⟩)) ((Finset.le_fold_min _).mpr ⟨?_, fun _ _ => le_rfl⟩)
    rw [inf_val]; exact le_top

end Cert.RefModal

end
-- ==== Proof.RefSort.lean ====
/-
  The reference's sorts and reads along a row: the first position of a sorted row holds a least element, and a read at
  in-range words is the element there.
-/
module

public import proofs.«01_k».proof.Proof.RefModal
public import Idealize.ShloMosaic.Lib.SortFacts

@[expose] public section

set_option maxRecDepth 16384

noncomputable section

open Idealize.ShloMosaic Idealize.ShloMosaic.TcCoe Idealize.SL.Sem
open scoped BigOperators

namespace Cert.RefSort

open Cert.ReferenceIdeal Cert.ReferenceIdeal.Read Cert.Spec Cert.RefEnd Cert.RefInit Cert.RefGather Cert.RefModal

/-- The sorts' comparison at the extended reals: strictly less. -/
theorem comp_eq (l r : EReal × BitVec 32) : comparator_f32_i32_d1 (F := Ideal) l r = BitVec.ofBool (decide (l.1 < r.1)) := by
  have hs : ∀ (a c : EReal), Scalar.select (FloatOps.cmpf (F := Ideal) (φ := .f32) CmpFPredicate.une a a) c
      (Scalar.select (FloatOps.cmpf (F := Ideal) (φ := .f32) CmpFPredicate.oeq a (FloatOps.ofBits (F := Ideal) FTy.f32 0#32)) (FloatOps.ofBits (F := Ideal) FTy.f32 0#32) a) = a := by
    intro a c
    have e0 : (FloatOps.ofBits (F := Ideal) FTy.f32 0#32 : EReal) = 0 := by
      show Ideal.ofBits .f32 0x00000000#32 = 0
      simp [Ideal.ofBits, Ideal.ieee]
    rw [e0]
    show Scalar.select (BitVec.ofBool (decide (a ≠ a))) c (Scalar.select (BitVec.ofBool (decide (a = 0))) 0 a) = a
    by_cases h : a = 0 <;> simp [Scalar.select, h]
  unfold comparator_f32_i32_d1
  simp only [hs]
  rfl

/-- A bit compared with 1. -/
theorem bit_beq (b : Bool) : (BitVec.ofBool b == 1#1) = b := by cases b <;> rfl

/-- Where the stable sort of a row takes its `j`-th element from. -/
def srt {n : ℕ} (f : Fin n → EReal) (j : Fin n) : Fin n :=
  sortedFrom (fun k k' => decide (f k < f k')) j

/-- The first element of a sorted row is a least one. -/
theorem srt_least {n : ℕ} (f : Fin (n + 1) → EReal) (k : Fin (n + 1)) : f (srt f 0) ≤ f k := by
  obtain ⟨j, rfl⟩ := sortedFrom_surjective (fun k k' => decide (f k < f k')) k
  by_cases hj : j = 0
  · rw [hj]; exact le_rfl
  · have h := sortedFrom_noInversion (fun k k' => decide (f k < f k')) (fun k k' => decide (f k < f k'))
      (by intro a b h; simp at h ⊢; exact h.le) (fun _ _ h => h)
      (by intro a b c h h'; simp at h h' ⊢; exact le_trans h' h) 0 j (Fin.pos_iff_ne_zero.mpr hj)
    exact not_lt.mp (of_decide_eq_false h)

/-- An index moved along the four labels. -/
theorem along4 (n : Fin 32768) (j k : Fin 4) (h : 1 < S32768x4.rank) : Shape.Idx.along (s := S32768x4) (ix2 n j) ⟨1, h⟩ k = ix2 n k := by
  funext a; match a with | ⟨0, _⟩ => rfl | ⟨1, _⟩ => rfl

/-- A sorted row of four's indices. -/
theorem sort4 (x : S32768x4.Idx → EReal) (y : IVec S32768x4 32) (hy : ∀ n k, y (ix2 n k) = BitVec.ofNat 32 k.val) (n : Fin 32768) (j : Fin 4) :
    (Host.sort2 S32768x4 1 (comparator_f32_i32_d1 (F := Ideal)) x y).2 (ix2 n j) = BitVec.ofNat 32 (srt (fun k => x (ix2 n k)) j).val := by
  unfold Host.sort2
  simp only [comp_eq, bit_beq]
  rw [dif_pos (by decide)]
  exact (congrArg y (along4 n j _ (by decide))).trans ((hy n _).trans
    (congrArg (fun f : Fin 4 → EReal => BitVec.ofNat 32 (srt f j).val) (funext fun k => congrArg x (along4 n j k (by decide)))))

/-- An index moved along the eight proposals. -/
theorem along8 (n : Fin 32768) (j k : Fin 8) (h : 1 < S32768x8.rank) : Shape.Idx.along (s := S32768x8) (ix2 n j) ⟨1, h⟩ k = ix2 n k := by
  funext a; match a with | ⟨0, _⟩ => rfl | ⟨1, _⟩ => rfl

/-- A sorted row of eight's indices. -/
theorem sort8 (x : S32768x8.Idx → EReal) (y : IVec S32768x8 32) (hy : ∀ n k, y (ix2 n k) = BitVec.ofNat 32 k.val) (n : Fin 32768) (j : Fin 8) :
    (Host.sort2 S32768x8 1 (comparator_f32_i32_d1 (F := Ideal)) x y).2 (ix2 n j) = BitVec.ofNat 32 (srt (fun k => x (ix2 n k)) j).val := by
  unfold Host.sort2
  simp only [comp_eq, bit_beq]
  rw [dif_pos (by decide)]
  exact (congrArg y (along8 n j _ (by decide))).trans ((hy n _).trans
    (congrArg (fun f : Fin 8 → EReal => BitVec.ofNat 32 (srt f j).val) (funext fun k => congrArg x (along8 n j k (by decide)))))

/-- The read along the four averages. -/
theorem gather4_4 {α : Type} (x : S32768x4.Idx → α) (idx : IVec S32768x4x1 32) (n : Fin 32768) (k : Fin 4) (c : Fin 4)
    (hc : idx (ix3 n k 0) = BitVec.ofNat 32 c.val) :
    Host.gather gather_S32768x4_S32768x4x1_S32768x4_n_1_0_0_1_2_11 x idx (ix2 n k) = x (ix2 n c) := by
  unfold Host.gather
  congr 1
  funext a
  apply Fin.ext
  match a with
  | ⟨0, _⟩ => show 0 + n.val + 0 = n.val; omega
  | ⟨1, _⟩ =>
    show min (idx _).toInt.toNat 3 + 0 + 0 = c.val
    rw [show idx _ = idx (ix3 n k 0) from congrArg idx (by
      funext a; match a with | ⟨0, _⟩ => rfl | ⟨1, _⟩ => rfl | ⟨2, _⟩ => rfl), hc, toInt_small _ (by omega)]
    omega

end Cert.RefSort

end
-- ==== Proof.RefPick.lean ====
/-
  The reference's averages sorted by their distances, and what the three suppression steps leave of them: the nearest
  label's average in the first column, 0 elsewhere.
-/
module

public import proofs.«01_k».proof.Proof.RefSort
public import Idealize.ShloMosaic.Lib.Routing.OpsSet

@[expose] public section

set_option maxRecDepth 16384

noncomputable section

open Idealize.ShloMosaic Idealize.ShloMosaic.TcCoe Idealize.SL.Sem
open scoped BigOperators

namespace Cert.RefPick

open Cert.ReferenceIdeal Cert.ReferenceIdeal.Read Cert.Spec Cert.RefEnd Cert.RefInit Cert.RefGather Cert.RefModal Cert.RefSort

/-- A word array of one word is its word. -/
theorem one_word (idx : IVec S1 32) (i : S1.Idx) (s : ℕ) (h : s < 4) (hi : idx (ix1 0) = BitVec.ofNat 32 s) : (idx i).toInt = (s : Int) := by
  rw [show idx i = idx (ix1 0) from congrArg idx (by
    funext x; match x with | ⟨0, h⟩ => exact Fin.ext (by have h1 : (i ⟨0, h⟩).val < 1 := (i ⟨0, h⟩).isLt; show (i ⟨0, h⟩).val = 0; omega)), hi,
    WordCmp.toInt_ofNat_of_lt (w := 32) (by omega)]

/-- Replacing the columns from `s` on: the columns before keep, column `s + k` becomes the update's column `k`. -/
theorem set_cols {W : ℕ} (d : ScatterDims S32768x4 S1 (Routing.shape2 32768 W)) (s : ℕ) (x : S32768x4.Idx → EReal) (idx : IVec S1 32)
    (upd : (Routing.shape2 32768 W).Idx → EReal)
    (e0 : ∀ k, d.start k idx 0 = 0) (e1 : ∀ k, d.start k idx 1 = (s : Int))
    (w0 : ∀ (n : Fin 32768) (k : Fin W), d.window (ix2 n k) 0 = n.val) (w1 : ∀ (n : Fin 32768) (k : Fin W), d.window (ix2 n k) 1 = k.val)
    (n : Fin 32768) (b : Fin 4) :
    (b.val < s → Host.scatter d (fun _ b => b) x idx upd (ix2 n b) = x (ix2 n b))
    ∧ (∀ k : Fin W, b.val = s + k.val → Host.scatter d (fun _ b => b) x idx upd (ix2 n b) = upd (ix2 n k)) := by
  have hl : ∀ (n' : Fin 32768) (k : Fin W), d.resultIdx? (ix2 n' k) idx = some (ix2 n b) ↔ n' = n ∧ s + k.val = b.val := by
    intro n' k
    rw [← vix2 n b, Routing.resultIdx?_ix2, e0, e1, w0, w1]
    constructor
    · rintro ⟨h, h'⟩; exact ⟨Fin.ext (by omega), by omega⟩
    · rintro ⟨rfl, h'⟩; exact ⟨by omega, by omega⟩
  have hi : ∀ k : (Routing.shape2 32768 W).Idx, ∃ (n' : Fin 32768) (k' : Fin W), k = ix2 n' k' := fun k =>
    ⟨k 0, k 1, by funext a; match a with | ⟨0, _⟩ => rfl | ⟨1, _⟩ => rfl⟩
  refine ⟨fun hb => ?_, fun k hk => ?_⟩
  · refine Routing.scatter_set_miss d x idx upd _ fun k => ?_
    obtain ⟨n', k', rfl⟩ := hi k
    rw [Ne, hl]; omega
  · refine Routing.scatter_set_hit d x idx upd _ _ (fun k' hk' => ?_) (ix2 n k) ((hl n k).mpr ⟨rfl, hk.symm⟩)
    obtain ⟨n', k'', rfl⟩ := hi k'
    obtain ⟨rfl, h⟩ := (hl _ _).mp hk'
    rw [show k'' = k from Fin.ext (by omega)]

variable (x1 : FVec Ideal S8x4096x8 .f32) (x4 : Img → EReal) (x5 : Img → BitVec 1) (x8 : Img → BitVec 32)

/-- The position of the `j`-th nearest label. -/
def sg (n : Fin 32768) (j : Fin 4) : Fin 4 := srt (fun k : Fin 4 => dk (gc x4 x5 n) (lc x8 n) (pc x1 n) (kw k)) j

/-- The nearest label's average. -/
def t0 (n : Fin 32768) : EReal := tm (gc x4 x5 n) (lc x8 n) (kw (sg x1 x4 x5 x8 n 0))

variable (h1 : ∀ i, 0 ≤ x1 i ∧ x1 i < 1) (h4 : ∀ i, x4 i < 1)

/-- A word in range passes the reads' range test. -/
theorem in_range4 : ∀ c : Fin 4, IntOp.andi (IntOp.cmpi CmpIPredicate.sge (BitVec.ofNat 32 c.val) 0#32)
    (IntOp.cmpi CmpIPredicate.sle (BitVec.ofNat 32 c.val) 3#32) = 1#1 := by decide

/-- The columns at which the three suppression steps write. -/
theorem word1 (k : S32768x3.Idx) : scatter_S32768x4_S1_S32768x3_01_n_1_0.start k (val_main_v109 (F := Ideal)) 1 = ((1 : ℕ) : Int) := by
  show (val_main_v109 (F := Ideal) _).toInt = _
  exact one_word _ _ 1 (by omega) (by pointwise [val_main_v109, val_main_c_40])
/-- The second step writes from column 2 on. -/
theorem word2 (k : S32768x2.Idx) : scatter_S32768x4_S1_S32768x2_01_n_1_0.start k (val_main_v125 (F := Ideal)) 1 = ((2 : ℕ) : Int) := by
  show (val_main_v125 (F := Ideal) _).toInt = _
  exact one_word _ _ 2 (by omega) (by pointwise [val_main_v125, val_main_c_44])
/-- The third step writes column 3. -/
theorem word3 (k : S32768x1.Idx) : scatter_S32768x4_S1_S32768x1_01_n_1_0.start k (val_main_v139 (F := Ideal)) 1 = ((3 : ℕ) : Int) := by
  show (val_main_v139 (F := Ideal) _).toInt = _
  exact one_word _ _ 3 (by omega) (by pointwise [val_main_v139, val_main_c_48])

/-- Zero as the reference writes it. -/
theorem zero_const : (id (constant (F := Ideal) S_ .f32 0x00000000#32) ix0 : EReal) = 0 := by
  show Ideal.ofBits .f32 0x00000000#32 = 0
  simp [Ideal.ofBits, Ideal.ieee]

include h4

/-- The sorted positions of the labels. -/
theorem v93_eq (n : Fin 32768) (j : Fin 4) : val_main_v93 (F := Ideal) x1 x4 x5 x8 (ix2 n j) = BitVec.ofNat 32 (sg x1 x4 x5 x8 n j).val := by
  unfold val_main_v93
  rw [sort4 _ _ (fun n k => by pointwise [val_main_call11_v0])]
  simp only [v92_eq x1 x4 x5 x8 h4]
  rfl

/-- The sorted averages. -/
theorem v94_eq (n : Fin 32768) (j : Fin 4) : val_main_v94 (F := Ideal) x1 x4 x5 x8 (ix2 n j) = tm (gc x4 x5 n) (lc x8 n) (kw (sg x1 x4 x5 x8 n j)) := by
  have hs : val_main_call12_v4 (F := Ideal) x1 x4 x5 x8 (ix2 n j) = BitVec.ofNat 32 (sg x1 x4 x5 x8 n j).val := by
    pointwise [val_main_call12_v4, val_main_call12_v3, val_main_call12_v2, val_main_call12_v1, val_main_call12_v0, val_main_call12_c, val_main_call12_c_0, v93_eq x1 x4 x5 x8 h4]
    exact Routing.wrap_of_lt _ _ (by rw [BitVec.toNat_ofNat]; omega)
  have hg : val_main_call12_v13 (F := Ideal) x1 x4 x5 x8 (ix2 n j) = tm (gc x4 x5 n) (lc x8 n) (kw (sg x1 x4 x5 x8 n j)) := by
    unfold val_main_call12_v13
    rw [gather4_4 _ _ n j (sg x1 x4 x5 x8 n j) (by pointwise [val_main_call12_v5, hs]), v81_eq x4 x5 x8 h4]
  have hv : val_main_call12_v12 (F := Ideal) x1 x4 x5 x8 (ix2 n j) = 1#1 := by
    pointwise [val_main_call12_v12, val_main_call12_v11, val_main_call12_v10, val_main_call12_v7, val_main_call12_v6, val_main_call12_v9, val_main_call12_v8, val_main_call12_c_1, val_main_call12_c_2, val_main_call12_c_3, val_main_call12_v5, hs]
    rw [in_range4]
    exact fold_one _
  pointwise [val_main_v94, hg, hv]

include h1

/-- The proposals of a cell lie in [0, 1). -/
theorem pc_unit (n : Fin 32768) (q : Fin 8) : 0 ≤ pc x1 n q ∧ pc x1 n q < 1 := h1 _

/-- Either the nearest label's average is positive, or every average is 0. -/
theorem near (n : Fin 32768) :
    (0 < t0 x1 x4 x5 x8 n → exs (gc x4 x5 n) (lc x8 n) = 1 ∧ err (gc x4 x5 n) (lc x8 n) (pc x1 n) = Spec.dist (pc x1 n) (t0 x1 x4 x5 x8 n))
    ∧ (¬ 0 < t0 x1 x4 x5 x8 n → exs (gc x4 x5 n) (lc x8 n) = 0 ∧ ∀ k : Fin 4, tm (gc x4 x5 n) (lc x8 n) (kw k) = 0) :=
  CellAlg.nearest _ _ _ (gc_lt x4 x5 h4 n) (pc_unit x1 x4 h1 h4 n) _ (fun k => srt_least (fun k : Fin 4 => dk (gc x4 x5 n) (lc x8 n) (pc x1 n) (kw k)) k)

/-- The first step keeps the first column. -/
theorem v110_zero (n : Fin 32768) : val_main_v110 (F := Ideal) x1 x4 x5 x8 (ix2 n 0) = t0 x1 x4 x5 x8 n := by
  unfold val_main_v110
  rw [(set_cols _ 1 _ _ _ (fun _ => rfl) word1 (fun _ _ => rfl) (fun _ _ => rfl) n 0).1 (by decide),
    v94_eq x1 x4 x5 x8 h4]
  rfl

/-- The first step finds 0 for every later column. -/
theorem v108_eq (n : Fin 32768) (k : Fin 3) : val_main_v108 (F := Ideal) x1 x4 x5 x8 (ix2 n k) = 0 := by
  pointwise [val_main_v108, val_main_v107, val_main_v106, val_main_v105, val_main_v104, val_main_v103, val_main_v102, val_main_v101, val_main_v100, val_main_v99, val_main_v98, val_main_v97, val_main_v96, val_main_v95,
    val_main_cst_37, val_main_cst_38, val_main_cst_39, val_main_call13_v0, val_main_call13_v1, v94_eq x1 x4 x5 x8 h4]
  rw [zero_const]
  by_cases h : 0 < t0 x1 x4 x5 x8 n
  · have hl : FloatOps.absf (F := Ideal) (φ := .f32) (tm (gc x4 x5 n) (lc x8 n) (kw (sg x1 x4 x5 x8 n ⟨1 + k.val, by omega⟩)) - tm (gc x4 x5 n) (lc x8 n) (kw (sg x1 x4 x5 x8 n 0)))
        < Ideal.ofBits .f32 0x41000000#32 := by
      obtain ⟨r, r0, r1, e⟩ := CellAlg.real_unit _ (CellAlg.tm_nonneg _ (lc x8 n) (gc_lt x4 x5 h4 n) (kw (sg x1 x4 x5 x8 n ⟨1 + k.val, by omega⟩))) (CellAlg.tm_lt _ _ (gc_lt x4 x5 h4 n) _)
      obtain ⟨r', r0', r1', e'⟩ := CellAlg.real_unit _ (CellAlg.tm_nonneg _ (lc x8 n) (gc_lt x4 x5 h4 n) (kw (sg x1 x4 x5 x8 n 0))) (CellAlg.tm_lt _ _ (gc_lt x4 x5 h4 n) _)
      rw [e, e', c8_val, ← EReal.coe_sub]
      show av _ < _
      rw [CellAlg.av_real]
      exact_mod_cast abs_lt.mpr ⟨by linarith, by linarith⟩
    rw [decide_eq_true hl, show decide (0 < tm (gc x4 x5 n) (lc x8 n) (kw (sg x1 x4 x5 x8 n 0))) = true from decide_eq_true h]
    rfl
  · rw [((near x1 x4 x5 x8 h1 h4 n).2 h).2 (sg x1 x4 x5 x8 n ⟨1 + k.val, by omega⟩)]
    simp [Scalar.select]

/-- The first step leaves 0 in every later column. -/
theorem v110_succ (n : Fin 32768) (k : Fin 3) (b : Fin 4) (hb : b.val = 1 + k.val) : val_main_v110 (F := Ideal) x1 x4 x5 x8 (ix2 n b) = 0 := by
  unfold val_main_v110
  rw [(set_cols _ 1 _ _ _ (fun _ => rfl) word1 (fun _ _ => rfl) (fun _ _ => rfl) n b).2 k hb,
    v108_eq x1 x4 x5 x8 h1 h4]

/-- What the first step leaves. -/
theorem v110_eq (n : Fin 32768) (b : Fin 4) : val_main_v110 (F := Ideal) x1 x4 x5 x8 (ix2 n b) = if b = 0 then t0 x1 x4 x5 x8 n else 0 := by
  by_cases hb : b = 0
  · rw [hb, v110_zero x1 x4 x5 x8 h1 h4, if_pos rfl]
  · rw [v110_succ x1 x4 x5 x8 h1 h4 n ⟨b.val - 1, by omega⟩ b (by have : b.val ≠ 0 := fun h => hb (Fin.ext h); simp only []; omega), if_neg hb]

/-- The second step finds 0. -/
theorem v124_eq (n : Fin 32768) (k : Fin 2) : val_main_v124 (F := Ideal) x1 x4 x5 x8 (ix2 n k) = 0 := by
  pointwise [val_main_v124, val_main_v123, val_main_call14_v0, val_main_call14_v1, val_main_cst_43, v110_eq x1 x4 x5 x8 h1 h4]
  rw [zero_const, if_neg (by intro h; have := congrArg Fin.val h; simp at this)]
  simp [Scalar.select]

/-- What the second step leaves. -/
theorem v126_eq (n : Fin 32768) (b : Fin 4) : val_main_v126 (F := Ideal) x1 x4 x5 x8 (ix2 n b) = if b = 0 then t0 x1 x4 x5 x8 n else 0 := by
  have key := set_cols scatter_S32768x4_S1_S32768x2_01_n_1_0 2 (val_main_v110 (F := Ideal) x1 x4 x5 x8) (val_main_v125 (F := Ideal)) (val_main_v124 (F := Ideal) x1 x4 x5 x8) (fun _ => rfl) word2 (fun _ _ => rfl) (fun _ _ => rfl) n b
  unfold val_main_v126
  by_cases hb : b.val < 2
  · rw [key.1 hb, v110_eq x1 x4 x5 x8 h1 h4]
  · rw [key.2 ⟨b.val - 2, by omega⟩ (by simp only []; omega), v124_eq x1 x4 x5 x8 h1 h4, if_neg (fun h => hb (by rw [h]; decide))]

/-- The third step finds 0. -/
theorem v138_eq (n : Fin 32768) (k : Fin 1) : val_main_v138 (F := Ideal) x1 x4 x5 x8 (ix2 n k) = 0 := by
  pointwise [val_main_v138, val_main_v137, val_main_call15_v0, val_main_call15_v1, val_main_cst_47, v126_eq x1 x4 x5 x8 h1 h4]
  rw [zero_const]
  simp [Scalar.select]

/-- What the suppression leaves. -/
theorem v140_eq (n : Fin 32768) (b : Fin 4) : val_main_v140 (F := Ideal) x1 x4 x5 x8 (ix2 n b) = if b = 0 then t0 x1 x4 x5 x8 n else 0 := by
  have key := set_cols scatter_S32768x4_S1_S32768x1_01_n_1_0 3 (val_main_v126 (F := Ideal) x1 x4 x5 x8) (val_main_v139 (F := Ideal)) (val_main_v138 (F := Ideal) x1 x4 x5 x8) (fun _ => rfl) word3 (fun _ _ => rfl) (fun _ _ => rfl) n b
  unfold val_main_v140
  by_cases hb : b.val < 3
  · rw [key.1 hb, v126_eq x1 x4 x5 x8 h1 h4]
  · rw [key.2 ⟨b.val - 3, by omega⟩ (by simp only []; omega), v138_eq x1 x4 x5 x8 h1 h4, if_neg (fun h => hb (by rw [h]; decide))]

end Cert.RefPick

end
-- ==== Proof.RefMatch.lean ====
/-
  The reference's greedy assignment of proposals: the first column takes the proposal nearest to the label's average,
  the other columns take nothing, so the two matching results are the cells' least distances summed.
-/
module

public import proofs.«01_k».proof.Proof.RefPick

@[expose] public section

set_option maxRecDepth 16384

noncomputable section

open Idealize.ShloMosaic Idealize.ShloMosaic.TcCoe Idealize.SL.Sem
open scoped BigOperators

namespace Cert.RefMatch

open Cert.ReferenceIdeal Cert.ReferenceIdeal.Read Cert.Spec Cert.RefEnd Cert.RefInit Cert.RefGather Cert.RefModal Cert.RefSort Cert.RefPick

variable (x1 : FVec Ideal S8x4096x8 .f32) (x4 : Img → EReal) (x5 : Img → BitVec 1) (x8 : Img → BitVec 32)

/-- The distance of a proposal to the nearest label's average. -/
def dq (n : Fin 32768) (q : Fin 8) : EReal := av (pc x1 n q * Ideal.ofBits .f32 0x41000000#32 - t0 x1 x4 x5 x8 n)

/-- The proposal taken. -/
def pk (n : Fin 32768) : Fin 8 := srt (dq x1 x4 x5 x8 n) 0

variable (h1 : ∀ i, 0 ≤ x1 i ∧ x1 i < 1) (h4 : ∀ i, x4 i < 1)

/-- A word in range passes the reads' range test. -/
theorem in_range8 : ∀ c : Fin 8, IntOp.andi (IntOp.cmpi CmpIPredicate.sge (BitVec.ofNat 32 c.val) 0#32)
    (IntOp.cmpi CmpIPredicate.sle (BitVec.ofNat 32 c.val) 7#32) = 1#1 := by decide

include h1 h4

/-- The nearest label's average lies in [0, 1). -/
theorem t0_unit (n : Fin 32768) : 0 ≤ t0 x1 x4 x5 x8 n ∧ t0 x1 x4 x5 x8 n < 1 :=
  ⟨CellAlg.tm_nonneg _ _ (gc_lt x4 x5 h4 n) _, CellAlg.tm_lt _ _ (gc_lt x4 x5 h4 n) _⟩

/-- The distance with its difference turned round. -/
theorem dq_swap (n : Fin 32768) (q : Fin 8) : dq x1 x4 x5 x8 n q = av (t0 x1 x4 x5 x8 n - pc x1 n q * Ideal.ofBits .f32 0x41000000#32) := by
  obtain ⟨s, _, _, _, e⟩ := CellAlg.prop_real (pc x1 n) (pc_unit x1 x4 h1 h4 n) q
  exact (CellAlg.av_comm _ _ (t0_unit x1 x4 x5 x8 h1 h4 n).1 (t0_unit x1 x4 x5 x8 h1 h4 n).2 ⟨_, e⟩).symm

/-- Where there is a label, the distance of the proposal taken is the cell's error. -/
theorem dq_err (n : Fin 32768) (h : 0 < t0 x1 x4 x5 x8 n) :
    dq x1 x4 x5 x8 n (pk x1 x4 x5 x8 n) = err (gc x4 x5 n) (lc x8 n) (pc x1 n) := by
  rw [((near x1 x4 x5 x8 h1 h4 n).1 h).2, dq_swap x1 x4 x5 x8 h1 h4]
  refine (CellAlg.dist_eq (pc x1 n) _ _ fun q' => ?_).symm
  rw [← dq_swap x1 x4 x5 x8 h1 h4, ← dq_swap x1 x4 x5 x8 h1 h4]
  exact srt_least (dq x1 x4 x5 x8 n) q'

/-- That distance is below 8. -/
theorem dq_lt (n : Fin 32768) (q : Fin 8) : dq x1 x4 x5 x8 n q < ((8 : ℝ) : EReal) := by
  rw [dq_swap x1 x4 x5 x8 h1 h4]
  exact CellAlg.one_lt (pc x1 n) (pc_unit x1 x4 h1 h4 n) _ (t0_unit x1 x4 x5 x8 h1 h4 n).1 (t0_unit x1 x4 x5 x8 h1 h4 n).2 q

/-- The distances of the first matching step. -/
theorem v146_eq (n : Fin 32768) (q : Fin 8) : val_main_v146 (F := Ideal) x1 x4 x5 x8 (ix2 n q) = dq x1 x4 x5 x8 n q := by
  pointwise [val_main_v146, val_main_v141, val_main_c_49, val_main_v145, val_main_v144, val_main_v143, val_main_v142, v140_eq x1 x4 x5 x8 h1 h4, v3_eq, Ideal.absf_def]
  rfl

/-- The proposal that the first matching step takes. -/
theorem v149_eq (n : Fin 32768) : val_main_v149 (F := Ideal) x1 x4 x5 x8 (ix1 n) = BitVec.ofNat 32 (pk x1 x4 x5 x8 n).val := by
  have h : val_main_v147 (F := Ideal) x1 x4 x5 x8 (ix2 n 0) = BitVec.ofNat 32 (pk x1 x4 x5 x8 n).val := by
    unfold val_main_v147
    rw [sort8 _ _ (fun n k => by pointwise [val_main_call17_v0])]
    simp only [v146_eq x1 x4 x5 x8 h1 h4]
    rfl
  pointwise [val_main_v149, val_main_v148]
  exact h

/-- The distance of that proposal. -/
theorem v152_eq (n : Fin 32768) : val_main_v152 (F := Ideal) x1 x4 x5 x8 (ix1 n) = dq x1 x4 x5 x8 n (pk x1 x4 x5 x8 n) := by
  have hs : val_main_call18_v4 (F := Ideal) x1 x4 x5 x8 (ix2 n 0) = BitVec.ofNat 32 (pk x1 x4 x5 x8 n).val := by
    pointwise [val_main_call18_v4, val_main_call18_v3, val_main_call18_v2, val_main_call18_v1, val_main_call18_v0, val_main_call18_c, val_main_call18_c_0, val_main_v150, v149_eq x1 x4 x5 x8 h1 h4]
    exact Routing.wrap_of_lt _ _ (by rw [BitVec.toNat_ofNat]; omega)
  have hg : val_main_call18_v13 (F := Ideal) x1 x4 x5 x8 (ix2 n 0) = dq x1 x4 x5 x8 n (pk x1 x4 x5 x8 n) := by
    unfold val_main_call18_v13
    rw [gather8_1 _ _ n (pk x1 x4 x5 x8 n) (by pointwise [val_main_call18_v5, hs]), v146_eq x1 x4 x5 x8 h1 h4]
  have hv : val_main_call18_v12 (F := Ideal) x1 x4 x5 x8 (ix2 n 0) = 1#1 := by
    pointwise [val_main_call18_v12, val_main_call18_v11, val_main_call18_v10, val_main_call18_v7, val_main_call18_v6, val_main_call18_v9, val_main_call18_v8, val_main_call18_c_1, val_main_call18_c_2, val_main_call18_c_3, val_main_call18_v5, hs]
    rw [in_range8]
    exact fold_one _
  pointwise [val_main_v152, val_main_v151, hg, hv]

/-- The distance the first column keeps. -/
theorem v164_eq (n : Fin 32768) : val_main_v164 (F := Ideal) x1 x4 x5 x8 (ix1 n)
    = if 0 < t0 x1 x4 x5 x8 n then err (gc x4 x5 n) (lc x8 n) (pc x1 n) else Ideal.ofBits .f32 0x47C35000#32 := by
  pointwise [val_main_v164, val_main_v163, val_main_v162, val_main_v161, val_main_v160, val_main_cst_51, val_main_cst_52, val_main_call19_v0, val_main_call19_v1, v152_eq x1 x4 x5 x8 h1 h4, v140_eq x1 x4 x5 x8 h1 h4]
  by_cases h : 0 < t0 x1 x4 x5 x8 n
  · rw [if_pos h, if_pos h, dq_err x1 x4 x5 x8 h1 h4 n h]
  · rw [if_neg h, if_neg h]
    rfl

/-- The other columns keep the filler. -/
theorem v187_eq (n : Fin 32768) : val_main_v187 (F := Ideal) x1 x4 x5 x8 (ix1 n) = Ideal.ofBits .f32 0x47C35000#32 := by
  pointwise [val_main_v187, val_main_v186, val_main_v185, val_main_v184, val_main_v183, val_main_cst_54, val_main_cst_55, val_main_call23_v0, val_main_call23_v1, v140_eq x1 x4 x5 x8 h1 h4]
  rw [if_neg (lt_irrefl _)]
  rfl
/-- The third column keeps the filler. -/
theorem v210_eq (n : Fin 32768) : val_main_v210 (F := Ideal) x1 x4 x5 x8 (ix1 n) = Ideal.ofBits .f32 0x47C35000#32 := by
  pointwise [val_main_v210, val_main_v209, val_main_v208, val_main_v207, val_main_v206, val_main_cst_57, val_main_cst_58, val_main_call27_v0, val_main_call27_v1, v140_eq x1 x4 x5 x8 h1 h4]
  rw [if_neg (lt_irrefl _)]
  rfl
/-- The fourth column keeps the filler. -/
theorem v233_eq (n : Fin 32768) : val_main_v233 (F := Ideal) x1 x4 x5 x8 (ix1 n) = Ideal.ofBits .f32 0x47C35000#32 := by
  pointwise [val_main_v233, val_main_v232, val_main_v231, val_main_v230, val_main_v229, val_main_cst_60, val_main_cst_61, val_main_call31_v0, val_main_call31_v1, v140_eq x1 x4 x5 x8 h1 h4]
  rw [if_neg (lt_irrefl _)]
  rfl

/-- The four columns of distances. -/
theorem v243_eq (n : Fin 32768) (k : Fin 4) : val_main_v243 (F := Ideal) x1 x4 x5 x8 (ix2 n k)
    = if k = 0 ∧ 0 < t0 x1 x4 x5 x8 n then err (gc x4 x5 n) (lc x8 n) (pc x1 n) else Ideal.ofBits .f32 0x47C35000#32 := by
  have : k = 0 ∨ k = 1 ∨ k = 2 ∨ k = 3 := by omega
  rcases this with rfl | rfl | rfl | rfl
  · pointwise [val_main_v243, val_main_v239, v164_eq x1 x4 x5 x8 h1 h4]
  · pointwise [val_main_v243, val_main_v240, v187_eq x1 x4 x5 x8 h1 h4]
    simp
  · pointwise [val_main_v243, val_main_v241, v210_eq x1 x4 x5 x8 h1 h4]
    simp
  · pointwise [val_main_v243, val_main_v242, v233_eq x1 x4 x5 x8 h1 h4]
    simp

/-- The proposal the first column takes. -/
theorem v244_eq (n : Fin 32768) : val_main_v244 (F := Ideal) x1 x4 x5 x8 (ix2 n 0) = pc x1 n (pk x1 x4 x5 x8 n) * Ideal.ofBits .f32 0x41000000#32 := by
  have h0 : val_main_v238 (F := Ideal) x1 x4 x5 x8 (ix2 n 0) = BitVec.ofNat 32 (pk x1 x4 x5 x8 n).val := by
    pointwise [val_main_v238, val_main_v234, v149_eq x1 x4 x5 x8 h1 h4]
  have hs : val_main_call32_v4 (F := Ideal) x1 x4 x5 x8 (ix2 n 0) = BitVec.ofNat 32 (pk x1 x4 x5 x8 n).val := by
    pointwise [val_main_call32_v4, val_main_call32_v3, val_main_call32_v2, val_main_call32_v1, val_main_call32_v0, val_main_call32_c, val_main_call32_c_0, h0]
    exact Routing.wrap_of_lt _ _ (by rw [BitVec.toNat_ofNat]; omega)
  have hg : val_main_call32_v13 (F := Ideal) x1 x4 x5 x8 (ix2 n 0) = pc x1 n (pk x1 x4 x5 x8 n) * Ideal.ofBits .f32 0x41000000#32 := by
    unfold val_main_call32_v13
    rw [gather8_4 _ _ n 0 (pk x1 x4 x5 x8 n) (by pointwise [val_main_call32_v5, hs]), v3_eq]
  have hv : val_main_call32_v12 (F := Ideal) x1 x4 x5 x8 (ix2 n 0) = 1#1 := by
    pointwise [val_main_call32_v12, val_main_call32_v11, val_main_call32_v10, val_main_call32_v7, val_main_call32_v6, val_main_call32_v9, val_main_call32_v8, val_main_call32_c_1, val_main_call32_c_2, val_main_call32_c_3, val_main_call32_v5, hs]
    rw [in_range8]
    exact fold_one _
  pointwise [val_main_v244, hg, hv]

/-- The mask: the first column where there is a label. -/
theorem v249_iff (n : Fin 32768) (k : Fin 4) : val_main_v249 (F := Ideal) x1 x4 x5 x8 (ix2 n k) = 1#1 ↔ k = 0 ∧ 0 < t0 x1 x4 x5 x8 n := by
  pointwise [val_main_v249, val_main_v248, val_main_v247, val_main_v246, val_main_v245, val_main_cst_62, val_main_cst_63, v140_eq x1 x4 x5 x8 h1 h4]
  by_cases hk : k = 0
  · rw [if_pos hk, decide_eq_true ((t0_unit x1 x4 x5 x8 h1 h4 n).2.trans one_lt_c320)]
    by_cases h : 0 < t0 x1 x4 x5 x8 n <;> simp [h, hk, IntOp.andi]
  · rw [if_neg hk, decide_eq_false (lt_irrefl (0 : EReal))]
    simp [hk, IntOp.andi]

/-- A column of distances is used where it is not the filler. -/
theorem v270_iff (n : Fin 32768) (k : Fin 4) : val_main_v270 (F := Ideal) x1 x4 x5 x8 (ix2 n k) = 1#1 ↔ k = 0 ∧ 0 < t0 x1 x4 x5 x8 n := by
  pointwise [val_main_v270, val_main_v269, val_main_cst_70, v243_eq x1 x4 x5 x8 h1 h4]
  by_cases h : k = 0 ∧ 0 < t0 x1 x4 x5 x8 n
  · have hn : err (gc x4 x5 n) (lc x8 n) (pc x1 n) ≠ Ideal.ofBits .f32 0x47C35000#32 := by
      rw [← dq_err x1 x4 x5 x8 h1 h4 n h.2, c1e5_val]
      exact ((dq_lt x1 x4 x5 x8 h1 h4 n _).trans (by exact_mod_cast (by norm_num : (8 : ℝ) < 100000))).ne
    rw [if_pos h, decide_eq_true hn]
    exact ⟨fun _ => h, fun _ => rfl⟩
  · rw [if_neg h, decide_eq_false (fun e => e rfl)]
    exact ⟨fun e => absurd e (by decide), fun e => absurd e h⟩

/-- How many cells have a label. -/
def cells : ℕ := (Finset.univ.filter fun i : Fin 32768 × Fin 4 => i.2 = 0 ∧ 0 < t0 x1 x4 x5 x8 i.1).card

/-- That number fits a signed word. -/
theorem cells_lt : cells x1 x4 x5 x8 < 2 ^ 31 := by
  refine lt_of_le_of_lt (Finset.card_le_univ _) ?_
  simp [Fintype.card_prod]

/-- The total of the cells' indicators is that number. -/
theorem T5_eq : T5 x4 x5 x8 = (cells x1 x4 x5 x8 : EReal) := by
  unfold T5 cells
  rw [← sum_ind, Fintype.sum_prod_type]
  refine Finset.sum_congr rfl fun n _ => ?_
  rw [Fin.sum_univ_four]
  by_cases h : 0 < t0 x1 x4 x5 x8 n
  · simp [f5, ((near x1 x4 x5 x8 h1 h4 n).1 h).1, h]
  · simp [f5, ((near x1 x4 x5 x8 h1 h4 n).2 h).1, h]

/-- A term of the smooth sum. -/
theorem v263_eq (n : Fin 32768) (k : Fin 4) : val_main_v263 (F := Ideal) x1 x4 x5 x8 (ix2 n k) = if k = 0 then f3 x1 x4 x5 x8 n else 0 := by
  by_cases hk : k = 0 ∧ 0 < t0 x1 x4 x5 x8 n
  · obtain ⟨rfl, h⟩ := hk
    have hd : val_main_v253 (F := Ideal) x1 x4 x5 x8 (ix2 n 0) = err (gc x4 x5 n) (lc x8 n) (pc x1 n) := by
      pointwise [val_main_v253, val_main_v252, v244_eq x1 x4 x5 x8 h1 h4, v140_eq x1 x4 x5 x8 h1 h4, Ideal.absf_def]
      exact dq_err x1 x4 x5 x8 h1 h4 n h
    pointwise [val_main_v263, val_main_v262, val_main_v261, val_main_v260, val_main_v259, val_main_v258, val_main_v257, val_main_v256, val_main_v255, val_main_v254, val_main_cst_65, val_main_cst_66, val_main_cst_67, hd, uitofp_bit]
    rw [if_pos ((v249_iff x1 x4 x5 x8 h1 h4 n 0).mpr ⟨rfl, h⟩)]
    simp only [f3, f5, ((near x1 x4 x5 x8 h1 h4 n).1 h).1, if_true]
    rfl
  · have hz : val_main_v262 (F := Ideal) x1 x4 x5 x8 (ix2 n k) = 0 := by
      pointwise [val_main_v262, uitofp_bit]
      rw [if_neg (fun e => hk ((v249_iff x1 x4 x5 x8 h1 h4 n k).mp e))]
    have e0 : (if k = 0 then f3 x1 x4 x5 x8 n else 0) = 0 := by
      split_ifs with e
      · rw [f3, f5, ((near x1 x4 x5 x8 h1 h4 n).2 fun h => hk ⟨e, h⟩).1, mul_zero]
      · rfl
    rw [e0]
    pointwise [val_main_v263, hz]
    exact mul_zero _

/-- A term of the plain sum. -/
theorem v271_eq (n : Fin 32768) (k : Fin 4) : val_main_v271 (F := Ideal) x1 x4 x5 x8 (ix2 n k) = if k = 0 then f4 x1 x4 x5 x8 n else 0 := by
  by_cases hk : k = 0 ∧ 0 < t0 x1 x4 x5 x8 n
  · have hm := (v270_iff x1 x4 x5 x8 h1 h4 n k).mpr hk
    pointwise [val_main_v271, hm, v243_eq x1 x4 x5 x8 h1 h4]
    rw [if_pos hk, if_pos hk.1, f4, f5, ((near x1 x4 x5 x8 h1 h4 n).1 hk.2).1, mul_one]
  · have hm := (BitVec.eq_zero_or_eq_one (val_main_v270 (F := Ideal) x1 x4 x5 x8 (ix2 n k))).resolve_right fun e => hk ((v270_iff x1 x4 x5 x8 h1 h4 n k).mp e)
    have e0 : (if k = 0 then f4 x1 x4 x5 x8 n else 0) = 0 := by
      split_ifs with e
      · rw [f4, f5, ((near x1 x4 x5 x8 h1 h4 n).2 fun h => hk ⟨e, h⟩).1, mul_zero]
      · rfl
    rw [e0]
    pointwise [val_main_v271, hm, val_main_call34_v1, val_main_call34_v0, val_main_cst_71]
    exact zero_const

/-- The reference's matching loss. -/
theorem ref1 (i : S_.Idx) : val_main_v268 (F := Ideal) x1 x4 x5 x8 i = r1 x1 x4 x5 x8 := by
  have hs : val_main_v264 (F := Ideal) x1 x4 x5 x8 i = T3 x1 x4 x5 x8 := by
    pointwise [val_main_v264, val_main_cst_68, v263_eq x1 x4 x5 x8 h1 h4]
    simp [T3, Fin.sum_univ_four]
  have hc : val_main_v251 (F := Ideal) x1 x4 x5 x8 i = BitVec.ofNat 32 (cells x1 x4 x5 x8) := by
    pointwise [val_main_v251, val_main_v250, val_main_c_64]
    exact fold_count _ _ fun k => v249_iff x1 x4 x5 x8 h1 h4 _ _
  show Ideal.div (val_main_v264 (F := Ideal) x1 x4 x5 x8 i) ((FloatOps.sitofp (F := Ideal) FTy.f32 (val_main_v251 (F := Ideal) x1 x4 x5 x8 i) : EReal) + Ideal.ofBits .f32 0x358637BD#32) = _
  rw [hs, hc, sitofp_ofNat _ (cells_lt x1 x4 x5 x8 h1 h4), r1, T5_eq x1 x4 x5 x8 h1 h4]

/-- The reference's matching error. -/
theorem ref2 (i : S_.Idx) : val_main_v278 (F := Ideal) x1 x4 x5 x8 i = r2 x1 x4 x5 x8 := by
  have hs : val_main_v272 (F := Ideal) x1 x4 x5 x8 i = T4 x1 x4 x5 x8 := by
    pointwise [val_main_v272, val_main_cst_72, v271_eq x1 x4 x5 x8 h1 h4]
    simp [T4, Fin.sum_univ_four]
  have hc : val_main_v274 (F := Ideal) x1 x4 x5 x8 i = BitVec.ofNat 32 (cells x1 x4 x5 x8) := by
    pointwise [val_main_v274, val_main_v273, val_main_c_73]
    exact fold_count _ _ fun k => v270_iff x1 x4 x5 x8 h1 h4 _ _
  show Ideal.div (val_main_v272 (F := Ideal) x1 x4 x5 x8 i) ((FloatOps.sitofp (F := Ideal) FTy.f32 (val_main_v274 (F := Ideal) x1 x4 x5 x8 i) : EReal) + Ideal.ofBits .f32 0x358637BD#32) = _
  rw [hs, hc, sitofp_ofNat _ (cells_lt x1 x4 x5 x8 h1 h4), r2, T5_eq x1 x4 x5 x8 h1 h4]

end Cert.RefMatch

end
-- ==== Proof.Equation.lean ====
/-
  The equation of the two programs: under the precondition the kernel's five results are the reference's, element by
  element.
-/
module

public import proofs.«01_k».proof.Defs
public import proofs.«01_k».proof.Proof.Gen.Pre_drawn
public import proofs.«01_k».proof.Proof.KRes
public import proofs.«01_k».proof.Proof.RefOut
public import proofs.«01_k».proof.Proof.RefTable
public import proofs.«01_k».proof.Proof.RefMatch

@[expose] public section

set_option maxRecDepth 16384

noncomputable section

open Idealize.ShloMosaic Idealize.ShloMosaic.TcCoe Idealize.SL.Sem
open scoped BigOperators

namespace Cert.Equation

open Cert.Spec Cert.KSum

/-- The constant 1. -/
theorem one_val : Ideal.ofBits .f32 0x3F800000#32 = (1 : EReal) := by
  simp [Ideal.ofBits, Ideal.ieee, -EReal.coe_mul]
  norm_num

/-- The precondition's bits as inequalities. -/
theorem unit_of_bit (x : EReal) (h : IntOp.andi (FloatOps.cmpf (F := Ideal) (φ := .f32) .oge x (Ideal.ofBits .f32 0x00000000#32))
    (FloatOps.cmpf (F := Ideal) (φ := .f32) .olt x (Ideal.ofBits .f32 0x3F800000#32)) = 1#1) : 0 ≤ x ∧ x < 1 := by
  have e : IntOp.andi (BitVec.ofBool (decide (Ideal.ofBits .f32 0x00000000#32 ≤ x))) (BitVec.ofBool (decide (x < Ideal.ofBits .f32 0x3F800000#32))) = 1#1 := h
  rw [Ideal.ofBits_zero, one_val] at e
  by_cases a : (0 : EReal) ≤ x <;> by_cases b : x < 1 <;> simp [a, b, IntOp.andi] at e ⊢

/-- The second bit of the precondition as an inequality. -/
theorem lt_of_bit (x : EReal) (h : FloatOps.cmpf (F := Ideal) (φ := .f32) .olt x (Ideal.ofBits .f32 0x3F800000#32) = 1#1) : x < 1 := by
  have e : BitVec.ofBool (decide (x < Ideal.ofBits .f32 0x3F800000#32)) = 1#1 := h
  rw [one_val] at e
  by_cases b : x < 1 <;> simp [b] at e ⊢

variable (m : (ℓ : Loc Cert.KernelIdeal.nD Cert.KernelIdeal.τ Cert.KernelIdeal.sig) → Buf (Elt Ideal) ℓ)

/-- The proposals lie in [0, 1). -/
theorem prop_unit (h : Cert.Pre_KernelIdeal_drawn m) (c : Dev Cert.KernelIdeal.nD) (i : Cert.ReferenceIdeal.S8x4096x8.Idx) : @LE.le EReal _ 0 (aProp m c i) ∧ @LT.lt EReal _ (aProp m c i) 1 :=
  unit_of_bit _ (congrFun (h c).1 i)

/-- The target disparities lie below 1. -/
theorem tgt_lt (h : Cert.Pre_KernelIdeal_drawn m) (c : Dev Cert.KernelIdeal.nD) (i : Img) : @LT.lt EReal _ (aTgt m c i) 1 :=
  lt_of_bit _ (congrFun (h c).2 i)

/-- The five results of the two programs are equal. -/
theorem equation (h : Cert.Pre_KernelIdeal_drawn m) (c : Dev Cert.KernelIdeal.nD) :
    Cert.KernelIdeal.Read.val_main_v40 (F := Ideal) (result m c)
      = Cert.ReferenceIdeal.Read.val_main_v430 (F := Ideal) (aProb m c) (aProp m c) (aDisp m c) (aPred m c) (aTgt m c) (aVal m c) (aOcc m c) (aOcc2 m c) (aLab m c) := by
  have h1 := prop_unit m h c
  have h4 := tgt_lt m h c
  funext i
  obtain ⟨k, rfl⟩ : ∃ k : Fin 5, i = ix1 k := ⟨i 0, funext fun a => match a with | ⟨0, _⟩ => rfl⟩
  have : k = 0 ∨ k = 1 ∨ k = 2 ∨ k = 3 ∨ k = 4 := by omega
  rcases this with rfl | rfl | rfl | rfl | rfl
  · exact (KRes.kres0 m c).trans ((RefMatch.ref1 _ _ _ _ h1 h4 _).symm.trans (RefOut.out0 _ _ _ _ _ _ _ _ _).symm)
  · exact (KRes.kres1 m c).trans ((RefMatch.ref2 _ _ _ _ h1 h4 _).symm.trans (RefOut.out1 _ _ _ _ _ _ _ _ _).symm)
  · exact (KRes.kres2 m c).trans ((RefTable.ref3 _ _ _ _ _ h4 _).symm.trans (RefOut.out2 _ _ _ _ _ _ _ _ _).symm)
  · exact (KRes.kres3 m c).trans ((RefEnd.ref4 _ _ _ h4 _).symm.trans (RefOut.out3 _ _ _ _ _ _ _ _ _).symm)
  · exact (KRes.kres4 m c).trans ((RefEnd.ref5 _ _ _ h4 _).symm.trans (RefOut.out4 _ _ _ _ _ _ _ _ _).symm)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Run
public import proofs.«01_k».proof.Proof.Gen.KernelIdeal.Read
public import proofs.«01_k».proof.Proof.Gen.Pre_drawn
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments unchanged, and ends with every semaphore counter at zero: it has none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel and the reference end with equal results. -/
theorem algebraic : Cert.algebraic_KernelIdeal_ReferenceIdeal_pre_drawn := by
  intro m g m' g' hpre hagree
  refine ⟨fun c => Cert.KernelIdeal.Read.val_main_v40 (F := Ideal) (Cert.KSum.result m c), ?_, ?_⟩
  · refine (θ_run Cert.KernelIdeal.defs _ _).mono (fun r h c => ⟨(h c).1.trans ?_, (h c).2⟩) (Cert.KernelIdeal.Value.run (F := Ideal) m g)
    exact congrArg (Cert.KernelIdeal.Read.val_main_v40 (F := Ideal)) (Cert.KSum.final_o m c)
  · refine (θ_run Cert.ReferenceIdeal.defs _ _).mono (fun r h c => ⟨(h c).1.trans ?_, (h c).2⟩) (Cert.ReferenceIdeal.Value.run (F := Ideal) m' g')
    refine (Cert.ReferenceIdeal.Read.val_main_v430_eq (F := Ideal) (StableHlo.launchContents m' c)).trans ?_
    refine Eq.trans ?_ (Cert.Equation.equation m hpre c).symm
    obtain ⟨e0, e1, e2, e3, e4, e5, e6, e7, e8⟩ := hagree c
    show Cert.ReferenceIdeal.Read.val_main_v430 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [e0, e1, e2, e3, e4, e5, e6, e7, e8]

/-- The certificate's claim: the frames of the three programs, with and without the precondition, the idealization, and the equality
    of the results. -/
theorem claim : Cert.Claim := ⟨Cert.Kernel.Gen.facts, Cert.KernelIdeal.Gen.facts, Cert.ReferenceIdeal.Gen.facts, Cert.Pre_drawn.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  algebraic⟩

end Cert.Proof

end
